-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v9_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v23_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v29) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v46) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite5 : Cert.Pre_finite5.Facts) (hPre_finite6 : Cert.Pre_finite6.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite5.lean ====
abbrev S8x4096x512 : Shape := ⟨3, ![8, 4096, 512]⟩
abbrev S8x4096x1024 : Shape := ⟨3, ![8, 4096, 1024]⟩
abbrev S8x1024 : Shape := ⟨2, ![8, 1024]⟩
abbrev S1024 : Shape := ⟨1, ![1024]⟩
abbrev S1024x1024 : Shape := ⟨2, ![1024, 1024]⟩
abbrev S1024x16 : Shape := ⟨2, ![1024, 16]⟩
abbrev S_ : Shape := ⟨0, ![]⟩

class Facts : Prop where
  bcast_S_S8x4096x512 : S_.BroadcastsInDim S8x4096x512 (![] : Fin 0 → Fin S8x4096x512.rank)
  bcast_S_S8x4096x1024 : S_.BroadcastsInDim S8x4096x1024 (![] : Fin 0 → Fin S8x4096x1024.rank)
  bcast_S_S8x1024 : S_.BroadcastsInDim S8x1024 (![] : Fin 0 → Fin S8x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S1024x16 : S_.BroadcastsInDim S1024x16 (![] : Fin 0 → Fin S1024x16.rank)

variable [Facts]

def fn_part1 {F : FTy → Type} [FloatOps F] (main_arg6 : FVec F S1024 .f32) (main_arg7 : FVec F S1024x1024 .f32) (main_arg8 : FVec F S1024x16 .f32) (main_v2 : IVec S8x4096x512 1) (main_v5 : IVec S8x4096x512 1) (main_v8 : IVec S8x4096x1024 1) (main_v11 : IVec S8x1024 1) (main_v14 : IVec S8x1024 1) (main_v17 : IVec S8x1024 1) : IVec S8x4096x512 1 × IVec S8x4096x512 1 × IVec S8x4096x1024 1 × IVec S8x1024 1 × IVec S8x1024 1 × IVec S8x1024 1 × IVec S1024 1 × IVec S1024x1024 1 × IVec S1024x16 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1024x16 .f32 := Host.absf main_arg8
  let main_cst_7 : FVec F S_ .f32 := constant S_ .f32 0x7F800000#32
  let main_v25 : FVec F S1024x16 .f32 := broadcastInDim S1024x16 ![] bcast_S_S1024x16 main_cst_7
  let main_v26 : IVec S1024x16 1 := cmpf .olt main_v24 main_v25
  (main_v2, main_v5, main_v8, main_v11, main_v14, main_v17, main_v20, main_v23, main_v26)

def fn {F : FTy → Type} [FloatOps F] (main_arg0 : FVec F S8x4096x512 .f32) (main_arg1 : FVec F S8x4096x512 .f32) (main_arg2 : FVec F S8x4096x1024 .f32) (main_arg3 : FVec F S8x1024 .f32) (main_arg4 : FVec F S8x1024 .f32) (main_arg5 : FVec F S8x1024 .f32) (main_arg6 : FVec F S1024 .f32) (main_arg7 : FVec F S1024x1024 .f32) (main_arg8 : FVec F S1024x16 .f32) : IVec S8x4096x512 1 × IVec S8x4096x512 1 × IVec S8x4096x1024 1 × IVec S8x1024 1 × IVec S8x1024 1 × IVec S8x1024 1 × IVec S1024 1 × IVec S1024x1024 1 × IVec S1024x16 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x512 .f32 := Host.absf main_arg1
  let main_cst_0 : FVec F S_ .f32 := constant S_ .f32 0x7F800000#32
  let main_v4 : FVec F S8x4096x512 .f32 := broadcastInDim S8x4096x512 ![] bcast_S_S8x4096x512 main_cst_0
  let main_v5 : IVec S8x4096x512 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S8x1024 .f32 := Host.absf main_arg3
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_v12 : FVec F S8x1024 .f32 := Host.absf main_arg4
  let main_cst_3 : FVec F S_ .f32 := constant S_ .f32 0x7F800000#32
  let main_v13 : FVec F S8x1024 .f32 := broadcastInDim S8x1024 ![] bcast_S_S8x1024 main_cst_3
  let main_v14 : IVec S8x1024 1 := cmpf .olt main_v12 main_v13
  let main_v15 : FVec F S8x1024 .f32 := Host.absf main_arg5
  let main_cst_4 : FVec F S_ .f32 := constant S_ .f32 0x7F800000#32
  let main_v16 : FVec F S8x1024 .f32 := broadcastInDim S8x1024 ![] bcast_S_S8x1024 main_cst_4
  let main_v17 : IVec S8x1024 1 := cmpf .olt main_v15 main_v16
  fn_part1 (F := F) main_arg6 main_arg7 main_arg8 main_v2 main_v5 main_v8 main_v11 main_v14 main_v17
-- ==== Pre_finite6.lean ====
abbrev S8x4096x1024 : Shape := ⟨3, ![8, 4096, 1024]⟩
abbrev S8x1024 : Shape := ⟨2, ![8, 1024]⟩
abbrev S1024 : Shape := ⟨1, ![1024]⟩
abbrev S1024x3600 : Shape := ⟨2, ![1024, 3600]⟩
abbrev S3600 : Shape := ⟨1, ![3600]⟩
abbrev S_ : Shape := ⟨0, ![]⟩

class Facts : Prop where
  bcast_S_S8x4096x1024 : S_.BroadcastsInDim S8x4096x1024 (![] : Fin 0 → Fin S8x4096x1024.rank)
  bcast_S_S8x1024 : S_.BroadcastsInDim S8x1024 (![] : Fin 0 → Fin S8x1024.rank)
  bcast_S_S1024 : S_.BroadcastsInDim S1024 (![] : Fin 0 → Fin S1024.rank)
  bcast_S_S1024x3600 : S_.BroadcastsInDim S1024x3600 (![] : Fin 0 → Fin S1024x3600.rank)

variable [Facts]

def fn {F : FTy → Type} [FloatOps F] (main_arg0 : FVec F S8x4096x1024 .f32) (main_arg1 : FVec F S8x1024 .f32) (main_arg2 : FVec F S8x1024 .f32) (main_arg3 : FVec F S1024 .f32) (main_arg4 : FVec F S1024x3600 .f32) (main_arg5 : FVec F S3600 .f32) : IVec S8x4096x1024 1 × IVec S8x1024 1 × IVec S8x1024 1 × IVec S1024 1 × IVec S1024x3600 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S8x1024 .f32 := Host.absf main_arg2
  let main_cst_1 : FVec F S_ .f32 := constant S_ .f32 0x7F800000#32
  let main_v7 : FVec F S8x1024 .f32 := broadcastInDim S8x1024 ![] bcast_S_S8x1024 main_cst_1
  let main_v8 : IVec S8x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x3600 .f32 := Host.absf main_arg4
  let main_cst_3 : FVec F S_ .f32 := constant S_ .f32 0x7F800000#32
  let main_v13 : FVec F S1024x3600 .f32 := broadcastInDim S1024x3600 ![] bcast_S_S1024x3600 main_cst_3
  let main_v14 : IVec S1024x3600 1 := cmpf .olt main_v12 main_v13
  (main_v2, main_v5, main_v8, main_v11, main_v14)
-- ==== Pre_finite7.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩

class Facts : Prop where
  bcast_S_S8x1024 : S_.BroadcastsInDim S8x1024 (![] : Fin 0 → Fin S8x1024.rank)
  bcast_S_S1024x6144 : S_.BroadcastsInDim S1024x6144 (![] : Fin 0 → Fin S1024x6144.rank)

variable [Facts]

def fn {F : FTy → Type} [FloatOps F] (main_arg0 : FVec F S8x1024 .f32) (main_arg1 : FVec F S1024x6144 .f32) (main_arg2 : FVec F S6144 .f32) : IVec S8x1024 1 × IVec S1024x6144 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_v3 : FVec F S1024x6144 .f32 := Host.absf main_arg1
  let main_cst_0 : FVec F S_ .f32 := constant S_ .f32 0x7F800000#32
  let main_v4 : FVec F S1024x6144 .f32 := broadcastInDim S1024x6144 ![] bcast_S_S1024x6144 main_cst_0
  let main_v5 : IVec S1024x6144 1 := cmpf .olt main_v3 main_v4
  (main_v2, main_v5)
-- ==== Kernel.lean ====
abbrev S8x4096x2048 : Shape := ⟨3, ![8, 4096, 2048]⟩
abbrev S8x4096x16 : Shape := ⟨3, ![8, 4096, 16]⟩
abbrev S3x1024 : Shape := ⟨2, ![3, 1024]⟩
abbrev S1024 : Shape := ⟨1, ![1024]⟩
abbrev S512 : Shape := ⟨1, ![512]⟩
abbrev S8x4096x4x4 : Shape := ⟨4, ![8, 4096, 4, 4]⟩
abbrev S8x4x4x4096 : Shape := ⟨4, ![8, 4, 4, 4096]⟩
abbrev S_ : Shape := ⟨0, ![]⟩
abbrev S8x4x8x4096 : Shape := ⟨4, ![8, 4, 8, 4096]⟩
abbrev S8x32x4096 : Shape := ⟨3, ![8, 32, 4096]⟩
abbrev S1x1024 : Shape := ⟨2, ![1, 1024]⟩
abbrev S1x512 : Shape := ⟨2, ![1, 512]⟩
abbrev S8x4096x512 : Shape := ⟨3, ![8, 4096, 512]⟩
abbrev S1x4096x128 : Shape := ⟨3, ![1, 4096, 128]⟩
abbrev S1x1x8x4096 : Shape := ⟨4, ![1, 1, 8, 4096]⟩
abbrev S3x128 : Shape := ⟨2, ![3, 128]⟩
abbrev S1x128 : Shape := ⟨2, ![1, 128]⟩
abbrev S32x128x128 : Shape := ⟨3, ![32, 128, 128]⟩
abbrev S4096x128 : Shape := ⟨2, ![4096, 128]⟩
abbrev S2x128x128 : Shape := ⟨3, ![2, 128, 128]⟩
abbrev S64x128x128 : Shape := ⟨3, ![64, 128, 128]⟩
abbrev S64x8x128 : Shape := ⟨3, ![64, 8, 128]⟩
abbrev S256x128 : Shape := ⟨2, ![256, 128]⟩
abbrev S128x128 : Shape := ⟨2, ![128, 128]⟩
abbrev S8x128 : Shape := ⟨2, ![8, 128]⟩
abbrev S1x128x128 : Shape := ⟨3, ![1, 128, 128]⟩
abbrev S1x8x128 : Shape := ⟨3, ![1, 8, 128]⟩
abbrev S1x1x8x128 : Shape := ⟨4, ![1, 1, 8, 128]⟩
abbrev S1x1 : Shape := ⟨2, ![1, 1]⟩
abbrev S1 : Shape := ⟨1, ![1]⟩
abbrev S16x128 : Shape := ⟨2, ![16, 128]⟩
abbrev S144x128 : Shape := ⟨2, ![144, 128]⟩
abbrev S128 : Shape := ⟨1, ![128]⟩
abbrev S128x1 : Shape := ⟨2, ![128, 1]⟩

abbrev nBuf : Space → Nat
  | .hbm => 16
  | .vmem => 32
  | .smem => 0
  | _ => 0

abbrev bufTy : (tb : Table) → Fin (tcTables nBuf tb) → BufTy
  | .hbm, ⟨0, _⟩ => ⟨S8x4096x2048, .f32⟩
  | .hbm, ⟨1, _⟩ => ⟨S8x4096x16, .f32⟩
  | .hbm, ⟨2, _⟩ => ⟨S3x1024, .f32⟩
  | .hbm, ⟨3, _⟩ => ⟨S1024, .f32⟩
  | .hbm, ⟨4, _⟩ => ⟨S512, .f32⟩
  | .hbm, ⟨5, _⟩ => ⟨S8x4096x4x4, .f32⟩
  | .hbm, ⟨6, _⟩ => ⟨S8x4x4x4096, .f32⟩
  | .hbm, ⟨7, _⟩ => ⟨S_, .i32⟩
  | .hbm, ⟨8, _⟩ => ⟨S_, .f32⟩
  | .hbm, ⟨9, _⟩ => ⟨S8x4x8x4096, .f32⟩
  | .hbm, ⟨10, _⟩ => ⟨S8x32x4096, .f32⟩
  | .hbm, ⟨11, _⟩ => ⟨S8x4x8x4096, .f32⟩
  | .hbm, ⟨12, _⟩ => ⟨S1x1024, .f32⟩
  | .hbm, ⟨13, _⟩ => ⟨S1x1024, .f32⟩
  | .hbm, ⟨14, _⟩ => ⟨S1x512, .f32⟩
  | .hbm, ⟨15, _⟩ => ⟨S8x4096x512, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | .local _ .vmem, ⟨8, _⟩ => ⟨S1x1x8x4096, .f32⟩
  | .local _ .vmem, ⟨9, _⟩ => ⟨S1x1x8x4096, .f32⟩
  | .local _ .vmem, ⟨10, _⟩ => ⟨S3x128, .f32⟩
  | .local _ .vmem, ⟨11, _⟩ => ⟨S3x128, .f32⟩
  | .local _ .vmem, ⟨12, _⟩ => ⟨S3x128, .f32⟩
  | .local _ .vmem, ⟨13, _⟩ => ⟨S3x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x4096x128, .f32⟩
  | .local _ .vmem, ⟨21, _⟩ => ⟨S1x4096x128, .f32⟩
  | .local _ .vmem, ⟨22, _⟩ => ⟨S32x128x128, .bf16⟩
  | .local _ .vmem, ⟨23, _⟩ => ⟨S4096x128, .bf16⟩
  | .local _ .vmem, ⟨24, _⟩ => ⟨S32x128x128, .f32⟩
  | .local _ .vmem, ⟨25, _⟩ => ⟨S2x128x128, .f32⟩
  | .local _ .vmem, ⟨26, _⟩ => ⟨S64x128x128, .f32⟩
  | .local _ .vmem, ⟨27, _⟩ => ⟨S64x128x128, .f32⟩
  | .local _ .vmem, ⟨28, _⟩ => ⟨S64x8x128, .f32⟩
  | .local _ .vmem, ⟨29, _⟩ => ⟨S256x128, .f32⟩
  | .local _ .vmem, ⟨30, _⟩ => ⟨S256x128, .f32⟩
  | .local _ .vmem, ⟨31, _⟩ => ⟨S32x128x128, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32 : BitVec 32 := 128#32
  let v49 : BitVec 32 := Scalar.muli arg23 c128_i32
  v49
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  v51
def k0_off1 (k0_t1 : Fin k0_t1_loop.trips) : Fin 3 → Nat :=
  let c0_29 : Index := 0#32
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  let v52 : BitVec 32 := v51
  let v53 : Index := Scalar.indexCast v52
  let c0_30 : Index := 0#32
  ![0, v53.toNat, 0]
def k0_mult3 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  let v52 : BitVec 32 := v51
  let c8_i32_31 : BitVec 32 := 8#32
  let v56 : BitVec 32 := Scalar.subi v52 c8_i32_31
  let c0_i32_32 : BitVec 32 := 0#32
  let v57 : BitVec 32 := Scalar.maxsi v56 c0_i32_32
  v57
def k0_mult4 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  let v52 : BitVec 32 := v51
  let c128_i32_33 : BitVec 32 := 128#32
  let v59 : BitVec 32 := Scalar.addi v52 c128_i32_33
  let c4088_i32 : BitVec 32 := 4088#32
  let v60 : BitVec 32 := Scalar.minsi v59 c4088_i32
  v60
def k0_off2 (k0_t1 : Fin k0_t1_loop.trips) : Fin 3 → Nat :=
  let c0_34 : Index := 0#32
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  let v52 : BitVec 32 := v51
  let c8_i32_31 : BitVec 32 := 8#32
  let v56 : BitVec 32 := Scalar.subi v52 c8_i32_31
  let c0_i32_32 : BitVec 32 := 0#32
  let v57 : BitVec 32 := Scalar.maxsi v56 c0_i32_32
  let v58 : BitVec 32 := v57
  let v62 : Index := Scalar.indexCast v58
  let c0_35 : Index := 0#32
  ![0, v62.toNat, 0]
def k0_off3 (k0_t1 : Fin k0_t1_loop.trips) : Fin 3 → Nat :=
  let c0_36 : Index := 0#32
  let c0_i32 : BitVec 32 := 0#32
  let c1_i32 : BitVec 32 := 1#32
  let arg23 : BitVec 32 := Scf.iv c0_i32 c1_i32 k0_t1
  let c128_i32_28 : BitVec 32 := 128#32
  let v51 : BitVec 32 := Scalar.muli arg23 c128_i32_28
  let v52 : BitVec 32 := v51
  let c128_i32_33 : BitVec 32 := 128#32
  let v59 : BitVec 32 := Scalar.addi v52 c128_i32_33
  let c4088_i32 : BitVec 32 := 4088#32
  let v60 : BitVec 32 := Scalar.minsi v59 c4088_i32
  let v61 : BitVec 32 := v60
  let v66 : Index := Scalar.indexCast v61
  let c0_37 : Index := 0#32
  ![0, v66.toNat, 0]
def k0_off4 (k0_t1 : Fin k0_t1_loop.trips) : Fin 3 → Nat :=
  let c0_i32 : BitVec 32 := 0#32
  let c1_i32 : BitVec 32 := 1#32
  let arg23 : BitVec 32 := Scf.iv c0_i32 c1_i32 k0_t1
  let v113 : Index := Scalar.indexCast arg23
  let c0_53 : Index := 0#32
  let c0_54 : Index := 0#32
  ![v113.toNat, 0, 0]
def k0_mult5 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_55 : BitVec 32 := 128#32
  let v117 : BitVec 32 := Scalar.muli arg23 c128_i32_55
  v117
def k0_mult6 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_55 : BitVec 32 := 128#32
  let v117 : BitVec 32 := Scalar.muli arg23 c128_i32_55
  let v118 : BitVec 32 := v117
  let c8_i32_58 : BitVec 32 := 8#32
  let v122 : BitVec 32 := Scalar.subi v118 c8_i32_58
  let c0_i32_59 : BitVec 32 := 0#32
  let v123 : BitVec 32 := Scalar.maxsi v122 c0_i32_59
  v123
def k0_mult7 (k0_t1 : Fin k0_t1_loop.trips) : BitVec 32 :=
  let c0_i32 : BitVec 32 := 0#32
  let c1_i32 : BitVec 32 := 1#32
  let arg23 : BitVec 32 := Scf.iv c0_i32 c1_i32 k0_t1
  let c128_i32_55 : BitVec 32 := 128#32
  let v117 : BitVec 32 := Scalar.muli arg23 c128_i32_55
  let v118 : BitVec 32 := v117
  let c128_i32_60 : BitVec 32 := 128#32
  let v125 : BitVec 32 := Scalar.addi v118 c128_i32_60
  let c4088_i32_61 : BitVec 32 := 4088#32
  let v126 : BitVec 32 := Scalar.minsi v125 c4088_i32_61
  v126
def k0_off5 (k0_t1 : Fin k0_t1_loop.trips) : Fin 2 → Nat :=
  let c0_i32 : BitVec 32 := 0#32
  let c1_i32 : BitVec 32 := 1#32
  let arg23 : BitVec 32 := Scf.iv c0_i32 c1_i32 k0_t1
  let c128_i32 : BitVec 32 := 128#32
  let v49 : BitVec 32 := Scalar.muli arg23 c128_i32
  let v50 : BitVec 32 := v49
  let v180 : Index := Scalar.indexCast v50
  let c0_86 : Index := 0#32
  ![v180.toNat, 0]
def k0_off6 (k0_t1 : Fin k0_t1_loop.trips) : Fin 4 → Nat :=
  let c0_91 : Index := 0#32
  let c0_92 : Index := 0#32
  let c0_93 : Index := 0#32
  let c0_i32 : BitVec 32 := 0#32
  let c1_i32 : BitVec 32 := 1#32
  let arg23 : BitVec 32 := Scf.iv c0_i32 c1_i32 k0_t1
  let c128_i32 : BitVec 32 := 128#32
  let v49 : BitVec 32 := Scalar.muli arg23 c128_i32
  let v50 : BitVec 32 := v49
  let v192 : Index := Scalar.indexCast v50
  ![0, 0, 0, v192.toNat]
def k0_mult8 (k0_t1 : Fin k0_t1_loop.trips) : BitVec 32 :=
  let c0_i32 : BitVec 32 := 0#32
  let c1_i32 : BitVec 32 := 1#32
  let arg23 : BitVec 32 := Scf.iv c0_i32 c1_i32 k0_t1
  let c8_i32_107 : BitVec 32 := 8#32
  let v247 : BitVec 32 := Scalar.muli arg23 c8_i32_107
  v247
def k0_off7 (k0_t1 : Fin k0_t1_loop.trips) : Fin 2 → Nat :=
  let c0_i32 : BitVec 32 := 0#32
  let c1_i32 : BitVec 32 := 1#32
  let arg23 : BitVec 32 := Scf.iv c0_i32 c1_i32 k0_t1
  let c8_i32_107 : BitVec 32 := 8#32
  let v247 : BitVec 32 := Scalar.muli arg23 c8_i32_107
  let v248 : BitVec 32 := v247
  let v249 : Index := Scalar.indexCast v248
  let c0_108 : Index := 0#32
  ![v249.toNat, 0]
@[reducible] def k0_t2_loop : Scf.Loop 32 :=
  let c0_i32_10 : BitVec 32 := 0#32
  let c32_i32_11 : BitVec 32 := 32#32
  let v39 : BitVec 32 := Scalar.addi c0_i32_10 c32_i32_11
  let c1_i32_12 : BitVec 32 := 1#32
  ⟨c0_i32_10, v39, c1_i32_12⟩
def k0_mult9 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c128_i32 : BitVec 32 := 128#32
  let v49 : BitVec 32 := Scalar.muli arg23 c128_i32
  v49
def k0_off8 (k0_t2 : Fin k0_t2_loop.trips) : Fin 2 → Nat :=
  let c0_i32_10 : BitVec 32 := 0#32
  let c1_i32_12 : BitVec 32 := 1#32
  let arg23 : BitVec 32 := Scf.iv c0_i32_10 c1_i32_12 k0_t2
  let c128_i32 : BitVec 32 := 128#32
  let v49 : BitVec 32 := Scalar.muli arg23 c128_i32
  let v50 : BitVec 32 := v49
  let v51 : Index := Scalar.indexCast v50
  let c0_28 : Index := 0#32
  ![v51.toNat, 0]
def k0_off9 (k0_t2 : Fin k0_t2_loop.trips) : Fin 3 → Nat :=
  let c0_i32_10 : BitVec 32 := 0#32
  let c1_i32_12 : BitVec 32 := 1#32
  let arg23 : BitVec 32 := Scf.iv c0_i32_10 c1_i32_12 k0_t2
  let v53 : Index := Scalar.indexCast arg23
  let c0_29 : Index := 0#32
  let c0_30 : Index := 0#32
  ![v53.toNat, 0, 0]
def k0_mult10 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c128_i32_34 : BitVec 32 := 128#32
  let v61 : BitVec 32 := Scalar.muli arg23 c128_i32_34
  v61
def k0_off10 (k0_t2 : Fin k0_t2_loop.trips) : Fin 4 → Nat :=
  let c0_37 : Index := 0#32
  let c0_38 : Index := 0#32
  let c0_39 : Index := 0#32
  let c0_i32_10 : BitVec 32 := 0#32
  let c1_i32_12 : BitVec 32 := 1#32
  let arg23 : BitVec 32 := Scf.iv c0_i32_10 c1_i32_12 k0_t2
  let c128_i32_34 : BitVec 32 := 128#32
  let v61 : BitVec 32 := Scalar.muli arg23 c128_i32_34
  let v62 : BitVec 32 := v61
  let v67 : Index := Scalar.indexCast v62
  ![0, 0, 0, v67.toNat]
def k0_mult11 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c8_i32_40 : BitVec 32 := 8#32
  let v71 : BitVec 32 := Scalar.muli arg23 c8_i32_40
  v71
def k0_off11 (k0_t2 : Fin k0_t2_loop.trips) : Fin 2 → Nat :=
  let c0_i32_10 : BitVec 32 := 0#32
  let c1_i32_12 : BitVec 32 := 1#32
  let arg23 : BitVec 32 := Scf.iv c0_i32_10 c1_i32_12 k0_t2
  let c8_i32_40 : BitVec 32 := 8#32
  let v71 : BitVec 32 := Scalar.muli arg23 c8_i32_40
  let v72 : BitVec 32 := v71
  let v73 : Index := Scalar.indexCast v72
  let c0_41 : Index := 0#32
  ![v73.toNat, 0]
def k0_off12 (k0_t2 : Fin k0_t2_loop.trips) (c0_i32_35 : BitVec 32) : Fin 3 → Nat :=
  let c2_i32 : BitVec 32 := 2#32
  let c0_i32_10 : BitVec 32 := 0#32
  let c1_i32_12 : BitVec 32 := 1#32
  let arg23 : BitVec 32 := Scf.iv c0_i32_10 c1_i32_12 k0_t2
  let v63 : BitVec 32 := Scalar.muli c2_i32 arg23
  let v64 : BitVec 32 := Scalar.addi v63 c0_i32_35
  let v90 : Index := Scalar.indexCast v64
  let c0_43 : Index := 0#32
  let c0_44 : Index := 0#32
  ![v90.toNat, 0, 0]
def k0_off13 (k0_t2 : Fin k0_t2_loop.trips) (c0_i32_35 : BitVec 32) : Fin 3 → Nat :=
  let c2_i32 : BitVec 32 := 2#32
  let c0_i32_10 : BitVec 32 := 0#32
  let c1_i32_12 : BitVec 32 := 1#32
  let arg23 : BitVec 32 := Scf.iv c0_i32_10 c1_i32_12 k0_t2
  let v63 : BitVec 32 := Scalar.muli c2_i32 arg23
  let v64 : BitVec 32 := Scalar.addi v63 c0_i32_35
  let v146 : Index := Scalar.indexCast v64
  let c0_57 : Index := 0#32
  let c0_58 : Index := 0#32
  ![v146.toNat, 0, 0]
def k0_mult12 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c128_i32_59 : BitVec 32 := 128#32
  let v150 : BitVec 32 := Scalar.muli arg23 c128_i32_59
  v150
def k0_mult13 (k0_t2 : Fin k0_t2_loop.trips) : BitVec 32 :=
  let c0_i32_10 : BitVec 32 := 0#32
  let c1_i32_12 : BitVec 32 := 1#32
  let arg23 : BitVec 32 := Scf.iv c0_i32_10 c1_i32_12 k0_t2
  let c8_i32_66 : BitVec 32 := 8#32
  let v160 : BitVec 32 := Scalar.muli arg23 c8_i32_66
  v160
@[reducible] def k0_t3_loop : Scf.Loop 32 :=
  let c0_i32_20 : BitVec 32 := 0#32
  let c32_i32_21 : BitVec 32 := 32#32
  let v46 : BitVec 32 := Scalar.addi c0_i32_20 c32_i32_21
  let c1_i32_22 : BitVec 32 := 1#32
  ⟨c0_i32_20, v46, c1_i32_22⟩
def k0_off14 (k0_t3 : Fin k0_t3_loop.trips) : Fin 3 → Nat :=
  let c2_i32 : BitVec 32 := 2#32
  let c0_i32_20 : BitVec 32 := 0#32
  let c1_i32_22 : BitVec 32 := 1#32
  let arg23 : BitVec 32 := Scf.iv c0_i32_20 c1_i32_22 k0_t3
  let v49 : BitVec 32 := Scalar.muli c2_i32 arg23
  let c0_i32_28 : BitVec 32 := 0#32
  let v50 : BitVec 32 := Scalar.addi v49 c0_i32_28
  let v51 : Index := Scalar.indexCast v50
  let c0_29 : Index := 0#32
  let c0_30 : Index := 0#32
  ![v51.toNat, 0, 0]
def k0_off15 (k0_t3 : Fin k0_t3_loop.trips) : Fin 3 → Nat :=
  let c2_i32 : BitVec 32 := 2#32
  let c0_i32_20 : BitVec 32 := 0#32
  let c1_i32_22 : BitVec 32 := 1#32
  let arg23 : BitVec 32 := Scf.iv c0_i32_20 c1_i32_22 k0_t3
  let v49 : BitVec 32 := Scalar.muli c2_i32 arg23
  let c0_i32_28 : BitVec 32 := 0#32
  let v50 : BitVec 32 := Scalar.addi v49 c0_i32_28
  let v67 : Index := Scalar.indexCast v50
  let c0_34 : Index := 0#32
  let c0_35 : Index := 0#32
  ![v67.toNat, 0, 0]
def k0_off16 (k0_t3 : Fin k0_t3_loop.trips) : Fin 3 → Nat :=
  let c2_i32_43 : BitVec 32 := 2#32
  let c31_i32 : BitVec 32 := 31#32
  let c0_i32_20 : BitVec 32 := 0#32
  let c1_i32_22 : BitVec 32 := 1#32
  let arg23 : BitVec 32 := Scf.iv c0_i32_20 c1_i32_22 k0_t3
  let v98 : BitVec 32 := Scalar.subi c31_i32 arg23
  let v99 : BitVec 32 := Scalar.muli c2_i32_43 v98
  let c1_i32_44 : BitVec 32 := 1#32
  let v100 : BitVec 32 := Scalar.addi v99 c1_i32_44
  let v101 : Index := Scalar.indexCast v100
  let c0_45 : Index := 0#32
  let c0_46 : Index := 0#32
  ![v101.toNat, 0, 0]
def k0_off17 (k0_t3 : Fin k0_t3_loop.trips) : Fin 3 → Nat :=
  let c2_i32_43 : BitVec 32 := 2#32
  let c31_i32 : BitVec 32 := 31#32
  let c0_i32_20 : BitVec 32 := 0#32
  let c1_i32_22 : BitVec 32 := 1#32
  let arg23 : BitVec 32 := Scf.iv c0_i32_20 c1_i32_22 k0_t3
  let v98 : BitVec 32 := Scalar.subi c31_i32 arg23
  let v99 : BitVec 32 := Scalar.muli c2_i32_43 v98
  let c1_i32_44 : BitVec 32 := 1#32
  let v100 : BitVec 32 := Scalar.addi v99 c1_i32_44
  let v117 : Index := Scalar.indexCast v100
  let c0_49 : Index := 0#32
  let c0_50 : Index := 0#32
  ![v117.toNat, 0, 0]
@[reducible] def k0_t4_loop : Scf.Loop 32 :=
  let c0_i32_24 : BitVec 32 := 0#32
  let c32_i32_25 : BitVec 32 := 32#32
  let v48 : BitVec 32 := Scalar.addi c0_i32_24 c32_i32_25
  let c1_i32_26 : BitVec 32 := 1#32
  ⟨c0_i32_24, v48, c1_i32_26⟩
def k0_mult14 (k0_t4 : Fin k0_t4_loop.trips) : BitVec 32 :=
  let c0_i32_24 : BitVec 32 := 0#32
  let c1_i32_26 : BitVec 32 := 1#32
  let arg23 : BitVec 32 := Scf.iv c0_i32_24 c1_i32_26 k0_t4
  let c128_i32 : BitVec 32 := 128#32
  let v49 : BitVec 32 := Scalar.muli arg23 c128_i32
  v49
def k0_off18 (k0_t4 : Fin k0_t4_loop.trips) : Fin 3 → Nat :=
  let c0_i32_24 : BitVec 32 := 0#32
  let c1_i32_26 : BitVec 32 := 1#32
  let arg23 : BitVec 32 := Scf.iv c0_i32_24 c1_i32_26 k0_t4
  let v53 : Index := Scalar.indexCast arg23
  let c0_29 : Index := 0#32
  let c0_30 : Index := 0#32
  ![v53.toNat, 0, 0]
def k0_off19 (k0_t4 : Fin k0_t4_loop.trips) (c0_i32_28 : BitVec 32) : Fin 3 → Nat :=
  let c2_i32 : BitVec 32 := 2#32
  let c0_i32_24 : BitVec 32 := 0#32
  let c1_i32_26 : BitVec 32 := 1#32
  let arg23 : BitVec 32 := Scf.iv c0_i32_24 c1_i32_26 k0_t4
  let v51 : BitVec 32 := Scalar.muli c2_i32 arg23
  let v52 : BitVec 32 := Scalar.addi v51 c0_i32_28
  let v56 : Index := Scalar.indexCast v52
  let c0_31 : Index := 0#32
  let c0_32 : Index := 0#32
  ![v56.toNat, 0, 0]
def k0_off20 (k0_t4 : Fin k0_t4_loop.trips) (c0_i32_28 : BitVec 32) : Fin 3 → Nat :=
  let c2_i32 : BitVec 32 := 2#32
  let c0_i32_24 : BitVec 32 := 0#32
  let c1_i32_26 : BitVec 32 := 1#32
  let arg23 : BitVec 32 := Scf.iv c0_i32_24 c1_i32_26 k0_t4
  let v51 : BitVec 32 := Scalar.muli c2_i32 arg23
  let v52 : BitVec 32 := Scalar.addi v51 c0_i32_28
  let v64 : Index := Scalar.indexCast v52
  let c0_33 : Index := 0#32
  let c0_34 : Index := 0#32
  ![v64.toNat, 0, 0]
def k0_off21 (k0_t4 : Fin k0_t4_loop.trips) : Fin 3 → Nat :=
  let c0_65 : Index := 0#32
  let c0_i32_24 : BitVec 32 := 0#32
  let c1_i32_26 : BitVec 32 := 1#32
  let arg23 : BitVec 32 := Scf.iv c0_i32_24 c1_i32_26 k0_t4
  let c128_i32 : BitVec 32 := 128#32
  let v49 : BitVec 32 := Scalar.muli arg23 c128_i32
  let v50 : BitVec 32 := v49
  let v174 : Index := Scalar.indexCast v50
  let c0_66 : Index := 0#32
  ![0, v174.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x2048 : Shape := ⟨3, ![8, 4096, 2048]⟩
abbrev S8x4096x16 : Shape := ⟨3, ![8, 4096, 16]⟩
abbrev S3x1024 : Shape := ⟨2, ![3, 1024]⟩
abbrev S1024 : Shape := ⟨1, ![1024]⟩
abbrev S512 : Shape := ⟨1, ![512]⟩
abbrev S8x4096x1024 : Shape := ⟨3, ![8, 4096, 1024]⟩
abbrev S_ : Shape := ⟨0, ![]⟩
abbrev S8x4098x1024 : Shape := ⟨3, ![8, 4098, 1024]⟩
abbrev S1x1024 : Shape := ⟨2, ![1, 1024]⟩
abbrev S1x1x1024 : Shape := ⟨3, ![1, 1, 1024]⟩
abbrev S8x4096x512 : Shape := ⟨3, ![8, 4096, 512]⟩
abbrev S8x4096x4x128 : Shape := ⟨4, ![8, 4096, 4, 128]⟩
abbrev S8x4x4096x128 : Shape := ⟨4, ![8, 4, 4096, 128]⟩
abbrev S8x4096x4x4 : Shape := ⟨4, ![8, 4096, 4, 4]⟩
abbrev S4x8x4x4096 : Shape := ⟨4, ![4, 8, 4, 4096]⟩
abbrev S1x8x4x4096 : Shape := ⟨4, ![1, 8, 4, 4096]⟩
abbrev S8x4x4096 : Shape := ⟨3, ![8, 4, 4096]⟩
abbrev S16x4x4096x128 : Shape := ⟨4, ![16, 4, 4096, 128]⟩
abbrev S16x4x4096 : Shape := ⟨3, ![16, 4, 4096]⟩
abbrev S128x128 : Shape := ⟨2, ![128, 128]⟩
abbrev S16x4x128x128 : Shape := ⟨4, ![16, 4, 128, 128]⟩
abbrev S16x4x128 : Shape := ⟨3, ![16, 4, 128]⟩
abbrev S16x4 : Shape := ⟨2, ![16, 4]⟩
abbrev S16x4x32x128x128 : Shape := ⟨5, ![16, 4, 32, 128, 128]⟩
abbrev S32x16x4x128x128 : Shape := ⟨5, ![32, 16, 4, 128, 128]⟩
abbrev S16x4x32x128 : Shape := ⟨4, ![16, 4, 32, 128]⟩
abbrev S32x16x4x128 : Shape := ⟨4, ![32, 16, 4, 128]⟩
abbrev S1x16x4x128x128 : Shape := ⟨5, ![1, 16, 4, 128, 128]⟩
abbrev S1x16x4x128 : Shape := ⟨4, ![1, 16, 4, 128]⟩
abbrev S16x4x1 : Shape := ⟨3, ![16, 4, 1]⟩
abbrev S16x4x128x1 : Shape := ⟨4, ![16, 4, 128, 1]⟩
abbrev S16x4x1x1 : Shape := ⟨4, ![16, 4, 1, 1]⟩
abbrev S16x4x1x128 : Shape := ⟨4, ![16, 4, 1, 128]⟩
abbrev S4x128 : Shape := ⟨2, ![4, 128]⟩
abbrev S8x4096x4 : Shape := ⟨3, ![8, 4096, 4]⟩
abbrev S8x4096x4x1 : Shape := ⟨4, ![8, 4096, 4, 1]⟩
abbrev S1x1x4x128 : Shape := ⟨4, ![1, 1, 4, 128]⟩

abbrev nBuf : Space → Nat
  | .hbm => 305
  | .vmem => 0
  | .smem => 0
  | _ => 0

abbrev hbmTy0_0 (i : Nat) : BufTy := match i % 128 with
  | 0 => ⟨S8x4096x2048, .f32⟩
  | 1 => ⟨S8x4096x16, .f32⟩
  | 2 => ⟨S3x1024, .f32⟩
  | 3 => ⟨S1024, .f32⟩
  | 4 => ⟨S512, .f32⟩
  | 5 => ⟨S8x4096x1024, .f32⟩
  | 6 => ⟨S_, .i32⟩
  | 7 => ⟨S_, .f32⟩
  | 8 => ⟨S8x4098x1024, .f32⟩
  | 9 => ⟨S8x4096x1024, .f32⟩
  | 10 => ⟨S1x1024, .f32⟩
  | 11 => ⟨S1024, .f32⟩
  | 12 => ⟨S1x1x1024, .f32⟩
  | 13 => ⟨S8x4096x1024, .f32⟩
  | 14 => ⟨S8x4096x1024, .f32⟩
  | 15 => ⟨S1x1x1024, .f32⟩
  | 16 => ⟨S8x4096x1024, .f32⟩
  | 17 => ⟨S8x4096x1024, .f32⟩
  | 18 => ⟨S8x4096x1024, .f32⟩
  | 19 => ⟨S1x1024, .f32⟩
  | 20 => ⟨S1024, .f32⟩
  | 21 => ⟨S1x1x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S1x1024, .f32⟩
  | 27 => ⟨S1024, .f32⟩
  | 28 => ⟨S1x1x1024, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S_, .f32⟩
  | 35 => ⟨S8x4096x1024, .f32⟩
  | 36 => ⟨S8x4096x1024, .f32⟩
  | 37 => ⟨S_, .f32⟩
  | 38 => ⟨S8x4096x1024, .f32⟩
  | 39 => ⟨S8x4096x1024, .f32⟩
  | 40 => ⟨S8x4096x1024, .f32⟩
  | 41 => ⟨S8x4096x512, .f32⟩
  | 42 => ⟨S8x4096x512, .f32⟩
  | 43 => ⟨S8x4096x512, .f32⟩
  | 44 => ⟨S8x4096x4x128, .f32⟩
  | 45 => ⟨S8x4x4096x128, .f32⟩
  | 46 => ⟨S8x4096x4x128, .f32⟩
  | 47 => ⟨S8x4x4096x128, .f32⟩
  | 48 => ⟨S_, .f32⟩
  | 49 => ⟨S8x4x4096x128, .f32⟩
  | 50 => ⟨S8x4x4096x128, .f32⟩
  | 51 => ⟨S8x4096x4x128, .f32⟩
  | 52 => ⟨S8x4x4096x128, .f32⟩
  | 53 => ⟨S8x4096x4x4, .f32⟩
  | 54 => ⟨S4x8x4x4096, .f32⟩
  | 55 => ⟨S1x8x4x4096, .f32⟩
  | 56 => ⟨S8x4x4096, .f32⟩
  | 57 => ⟨S1x8x4x4096, .f32⟩
  | 58 => ⟨S8x4x4096, .f32⟩
  | 59 => ⟨S1x8x4x4096, .f32⟩
  | 60 => ⟨S8x4x4096, .f32⟩
  | 61 => ⟨S1x8x4x4096, .f32⟩
  | 62 => ⟨S8x4x4096, .f32⟩
  | 63 => ⟨S8x4x4096x128, .f32⟩
  | 64 => ⟨S16x4x4096x128, .f32⟩
  | 65 => ⟨S8x4x4096x128, .f32⟩
  | 66 => ⟨S16x4x4096x128, .f32⟩
  | 67 => ⟨S8x4x4096x128, .f32⟩
  | 68 => ⟨S16x4x4096x128, .f32⟩
  | 69 => ⟨S8x4x4096, .f32⟩
  | 70 => ⟨S16x4x4096, .f32⟩
  | 71 => ⟨S8x4x4096, .f32⟩
  | 72 => ⟨S_, .f32⟩
  | 73 => ⟨S8x4x4096, .f32⟩
  | 74 => ⟨S8x4x4096, .f32⟩
  | 75 => ⟨S8x4x4096, .f32⟩
  | 76 => ⟨S8x4x4096, .f32⟩
  | 77 => ⟨S8x4x4096, .i1⟩
  | 78 => ⟨S8x4x4096, .f32⟩
  | 79 => ⟨S8x4x4096, .f32⟩
  | 80 => ⟨S8x4x4096, .f32⟩
  | 81 => ⟨S8x4x4096, .f32⟩
  | 82 => ⟨S8x4x4096, .f32⟩
  | 83 => ⟨S8x4x4096, .f32⟩
  | 84 => ⟨S8x4x4096, .f32⟩
  | 85 => ⟨S8x4x4096, .f32⟩
  | 86 => ⟨S8x4x4096, .f32⟩
  | 87 => ⟨S8x4x4096, .f32⟩
  | 88 => ⟨S_, .f32⟩
  | 89 => ⟨S8x4x4096, .f32⟩
  | 90 => ⟨S8x4x4096, .f32⟩
  | 91 => ⟨S8x4x4096, .f32⟩
  | 92 => ⟨S8x4x4096, .f32⟩
  | 93 => ⟨S8x4x4096, .i1⟩
  | 94 => ⟨S8x4x4096, .f32⟩
  | 95 => ⟨S8x4x4096, .f32⟩
  | 96 => ⟨S8x4x4096, .f32⟩
  | 97 => ⟨S8x4x4096, .f32⟩
  | 98 => ⟨S8x4x4096, .f32⟩
  | 99 => ⟨S8x4x4096, .f32⟩
  | 100 => ⟨S8x4x4096, .f32⟩
  | 101 => ⟨S8x4x4096, .f32⟩
  | 102 => ⟨S8x4x4096, .f32⟩
  | 103 => ⟨S8x4x4096, .f32⟩
  | 104 => ⟨S16x4x4096, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S_, .f32⟩
  | 117 => ⟨S16x4x128x128, .f32⟩
  | 118 => ⟨S_, .f32⟩
  | 119 => ⟨S16x4x128, .f32⟩
  | 120 => ⟨S_, .f32⟩
  | 121 => ⟨S16x4, .f32⟩
  | 122 => ⟨S16x4x32x128x128, .f32⟩
  | 123 => ⟨S32x16x4x128x128, .f32⟩
  | 124 => ⟨S16x4x32x128x128, .f32⟩
  | 125 => ⟨S32x16x4x128x128, .f32⟩
  | 126 => ⟨S16x4x32x128x128, .f32⟩
  | 127 => ⟨S32x16x4x128x128, .f32⟩
  | _ => ⟨S8x4096x2048, .f32⟩

abbrev hbmTy0_1 (i : Nat) : BufTy := match i % 128 with
  | 0 => ⟨S16x4x32x128, .f32⟩
  | 1 => ⟨S32x16x4x128, .f32⟩
  | 2 => ⟨S16x4x32x128, .f32⟩
  | 3 => ⟨S32x16x4x128, .f32⟩
  | 4 => ⟨S_, .f32⟩
  | 5 => ⟨S32x16x4x128x128, .f32⟩
  | 6 => ⟨S_, .i32⟩
  | 7 => ⟨S32x16x4x128x128, .f32⟩
  | 8 => ⟨S32x16x4x128x128, .f32⟩
  | 9 => ⟨S32x16x4x128x128, .f32⟩
  | 10 => ⟨S32x16x4x128, .f32⟩
  | 11 => ⟨S32x16x4x128, .f32⟩
  | 12 => ⟨S128x128, .i1⟩
  | 13 => ⟨S_, .i32⟩
  | 14 => ⟨S16x4x128x128, .f32⟩
  | 15 => ⟨S16x4x128, .f32⟩
  | 16 => ⟨S16x4, .f32⟩
  | 17 => ⟨S32x16x4x128x128, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S1x16x4x128x128, .f32⟩
  | 25 => ⟨S16x4x128x128, .f32⟩
  | 26 => ⟨S_, .i32⟩
  | 27 => ⟨S_, .i32⟩
  | 28 => ⟨S_, .i32⟩
  | 29 => ⟨S_, .i32⟩
  | 30 => ⟨S1x16x4x128x128, .f32⟩
  | 31 => ⟨S16x4x128x128, .f32⟩
  | 32 => ⟨S_, .i32⟩
  | 33 => ⟨S_, .i32⟩
  | 34 => ⟨S_, .i32⟩
  | 35 => ⟨S_, .i32⟩
  | 36 => ⟨S1x16x4x128x128, .f32⟩
  | 37 => ⟨S16x4x128x128, .f32⟩
  | 38 => ⟨S_, .i32⟩
  | 39 => ⟨S_, .i32⟩
  | 40 => ⟨S_, .i32⟩
  | 41 => ⟨S1x16x4x128, .f32⟩
  | 42 => ⟨S16x4x128, .f32⟩
  | 43 => ⟨S_, .i32⟩
  | 44 => ⟨S_, .i32⟩
  | 45 => ⟨S_, .i32⟩
  | 46 => ⟨S1x16x4x128, .f32⟩
  | 47 => ⟨S16x4x128, .f32⟩
  | 48 => ⟨S_, .f32⟩
  | 49 => ⟨S_, .f32⟩
  | 50 => ⟨S16x4x128, .f32⟩
  | 51 => ⟨S16x4x1, .f32⟩
  | 52 => ⟨S16x4, .f32⟩
  | 53 => ⟨S16x4x1, .f32⟩
  | 54 => ⟨S16x4x128, .f32⟩
  | 55 => ⟨S16x4x128, .f32⟩
  | 56 => ⟨S16x4x128, .f32⟩
  | 57 => ⟨S_, .f32⟩
  | 58 => ⟨S16x4, .f32⟩
  | 59 => ⟨S16x4x1, .f32⟩
  | 60 => ⟨S16x4x128, .f32⟩
  | 61 => ⟨S16x4x128, .f32⟩
  | 62 => ⟨S16x4x128, .f32⟩
  | 63 => ⟨S16x4x128x1, .f32⟩
  | 64 => ⟨S16x4x128x128, .f32⟩
  | 65 => ⟨S16x4x128x128, .f32⟩
  | 66 => ⟨S16x4x128x128, .f32⟩
  | 67 => ⟨S16x4x128, .f32⟩
  | 68 => ⟨S16x4, .f32⟩
  | 69 => ⟨S16x4, .f32⟩
  | 70 => ⟨S16x4, .f32⟩
  | 71 => ⟨S16x4, .f32⟩
  | 72 => ⟨S16x4, .f32⟩
  | 73 => ⟨S16x4, .f32⟩
  | 74 => ⟨S16x4, .f32⟩
  | 75 => ⟨S16x4x1x1, .f32⟩
  | 76 => ⟨S16x4x128x128, .f32⟩
  | 77 => ⟨S16x4x128x128, .f32⟩
  | 78 => ⟨S16x4x1x1, .f32⟩
  | 79 => ⟨S16x4x128x128, .f32⟩
  | 80 => ⟨S16x4x128x128, .f32⟩
  | 81 => ⟨S16x4x128x128, .f32⟩
  | 82 => ⟨S16x4x1, .f32⟩
  | 83 => ⟨S16x4x128, .f32⟩
  | 84 => ⟨S16x4x128, .f32⟩
  | 85 => ⟨S16x4x1, .f32⟩
  | 86 => ⟨S16x4x128, .f32⟩
  | 87 => ⟨S16x4x128, .f32⟩
  | 88 => ⟨S16x4x128, .f32⟩
  | 89 => ⟨S16x4x128x1, .f32⟩
  | 90 => ⟨S16x4x1x128, .f32⟩
  | 91 => ⟨S16x4x128x128, .f32⟩
  | 92 => ⟨S16x4x128x128, .f32⟩
  | 93 => ⟨S16x4x128x128, .f32⟩
  | 94 => ⟨S16x4x1x128, .f32⟩
  | 95 => ⟨S16x4x128x128, .f32⟩
  | 96 => ⟨S16x4x128x128, .f32⟩
  | 97 => ⟨S_, .f32⟩
  | 98 => ⟨S_, .f32⟩
  | 99 => ⟨S16x4x128x128, .i1⟩
  | 100 => ⟨S16x4x128x128, .f32⟩
  | 101 => ⟨S16x4x128x128, .f32⟩
  | 102 => ⟨S16x4x1, .f32⟩
  | 103 => ⟨S16x4x128, .f32⟩
  | 104 => ⟨S16x4x128, .f32⟩
  | 105 => ⟨S_, .f32⟩
  | 106 => ⟨S16x4x128, .f32⟩
  | 107 => ⟨S16x4x128, .f32⟩
  | 108 => ⟨S16x4x128x1, .f32⟩
  | 109 => ⟨S16x4x128x128, .f32⟩
  | 110 => ⟨S16x4x128x128, .f32⟩
  | 111 => ⟨S16x4x128x128, .f32⟩
  | 112 => ⟨S16x4x128, .f32⟩
  | 113 => ⟨S16x4x128, .f32⟩
  | 114 => ⟨S16x4x128x128, .f32⟩
  | 115 => ⟨S16x4x128x128, .f32⟩
  | 116 => ⟨S16x4x128x128, .f32⟩
  | 117 => ⟨S16x4x128x1, .f32⟩
  | 118 => ⟨S16x4x128x128, .f32⟩
  | 119 => ⟨S16x4x128x128, .f32⟩
  | 120 => ⟨S16x4x128x128, .f32⟩
  | 121 => ⟨S16x4x128x128, .f32⟩
  | 122 => ⟨S_, .f32⟩
  | 123 => ⟨S16x4x128, .f32⟩
  | 124 => ⟨S16x4x128, .f32⟩
  | 125 => ⟨S16x4x128, .f32⟩
  | 126 => ⟨S16x4x128, .f32⟩
  | 127 => ⟨S16x4x128, .f32⟩
  | _ => ⟨S8x4096x2048, .f32⟩

abbrev hbmTy0_2 (i : Nat) : BufTy := match i % 128 with
  | 0 => ⟨S16x4x128, .f32⟩
  | 1 => ⟨S16x4x128, .f32⟩
  | 2 => ⟨S16x4x128, .f32⟩
  | 3 => ⟨S16x4x128x1, .f32⟩
  | 4 => ⟨S16x4x128x128, .f32⟩
  | 5 => ⟨S16x4x128x128, .f32⟩
  | 6 => ⟨S1x16x4x128x128, .f32⟩
  | 7 => ⟨S_, .i32⟩
  | 8 => ⟨S_, .i32⟩
  | 9 => ⟨S_, .i32⟩
  | 10 => ⟨S_, .i32⟩
  | 11 => ⟨S32x16x4x128x128, .f32⟩
  | 12 => ⟨S_, .i32⟩
  | 13 => ⟨S_, .i32⟩
  | 14 => ⟨S16x4x32x128x128, .f32⟩
  | 15 => ⟨S16x4x4096x128, .f32⟩
  | 16 => ⟨S8x4x4096x128, .f32⟩
  | 17 => ⟨S8x4x4096x128, .f32⟩
  | 18 => ⟨S8x4x4096x128, .f32⟩
  | 19 => ⟨S8x4x4096x128, .f32⟩
  | 20 => ⟨S8x4096x4x128, .f32⟩
  | 21 => ⟨S4x128, .f32⟩
  | 22 => ⟨S8x4096x4x128, .f32⟩
  | 23 => ⟨S_, .f32⟩
  | 24 => ⟨S8x4096x4, .f32⟩
  | 25 => ⟨S8x4096x4x1, .f32⟩
  | 26 => ⟨S_, .f32⟩
  | 27 => ⟨S8x4096x4x1, .f32⟩
  | 28 => ⟨S8x4096x4x1, .f32⟩
  | 29 => ⟨S_, .f32⟩
  | 30 => ⟨S8x4096x4x1, .f32⟩
  | 31 => ⟨S8x4096x4x1, .f32⟩
  | 32 => ⟨S8x4096x4x1, .f32⟩
  | 33 => ⟨S8x4096x4x128, .f32⟩
  | 34 => ⟨S8x4096x4x128, .f32⟩
  | 35 => ⟨S1x1x4x128, .f32⟩
  | 36 => ⟨S8x4096x4x128, .f32⟩
  | 37 => ⟨S8x4096x4x128, .f32⟩
  | 38 => ⟨S8x4096x512, .f32⟩
  | 39 => ⟨S8x4096x512, .f32⟩
  | 40 => ⟨S8x4096x512, .f32⟩
  | 41 => ⟨S8x4096x512, .f32⟩
  | 42 => ⟨S_, .f32⟩
  | 43 => ⟨S8x4096x512, .f32⟩
  | 44 => ⟨S8x4096x512, .f32⟩
  | 45 => ⟨S_, .f32⟩
  | 46 => ⟨S8x4096x512, .f32⟩
  | 47 => ⟨S8x4096x512, .f32⟩
  | 48 => ⟨S8x4096x512, .f32⟩
  | _ => ⟨S8x4096x2048, .f32⟩

abbrev hbmTy (i : Nat) : BufTy := match i / 128 with
  | 0 => hbmTy0_0 i
  | 1 => hbmTy0_1 i
  | 2 => hbmTy0_2 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call6_cst : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_v6 : Ref sig .tc := ⟨.hbm, 79, rfl⟩
abbrev main_call6_v7 : Ref sig .tc := ⟨.hbm, 80, rfl⟩
abbrev main_call6_v8 : Ref sig .tc := ⟨.hbm, 81, rfl⟩
abbrev main_call6_v9 : Ref sig .tc := ⟨.hbm, 82, rfl⟩
abbrev main_call6_v10 : Ref sig .tc := ⟨.hbm, 83, rfl⟩
abbrev main_call6_v11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_call7_cst : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_v6 : Ref sig .tc := ⟨.hbm, 95, rfl⟩
abbrev main_call7_v7 : Ref sig .tc := ⟨.hbm, 96, rfl⟩
abbrev main_call7_v8 : Ref sig .tc := ⟨.hbm, 97, rfl⟩
abbrev main_call7_v9 : Ref sig .tc := ⟨.hbm, 98, rfl⟩
abbrev main_call7_v10 : Ref sig .tc := ⟨.hbm, 99, rfl⟩
abbrev main_call7_v11 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_0 : Ref sig .tc := ⟨.hbm, 105, rfl⟩
abbrev main_v63 : Ref sig .tc := ⟨.hbm, 106, rfl⟩
abbrev main_call9_v0 : Ref sig .tc := ⟨.hbm, 107, rfl⟩
abbrev main_call9_c : Ref sig .tc := ⟨.hbm, 108, rfl⟩
abbrev main_call9_v1 : Ref sig .tc := ⟨.hbm, 109, rfl⟩
abbrev main_call9_v2 : Ref sig .tc := ⟨.hbm, 110, rfl⟩
abbrev main_call9_v3 : Ref sig .tc := ⟨.hbm, 111, rfl⟩
abbrev main_call9_v4 : Ref sig .tc := ⟨.hbm, 112, rfl⟩
abbrev main_call9_c_0 : Ref sig .tc := ⟨.hbm, 113, rfl⟩
abbrev main_call9_v5 : Ref sig .tc := ⟨.hbm, 114, rfl⟩
abbrev main_v64 : Ref sig .tc := ⟨.hbm, 115, rfl⟩
abbrev main_cst_1 : Ref sig .tc := ⟨.hbm, 116, rfl⟩
abbrev main_v65 : Ref sig .tc := ⟨.hbm, 117, rfl⟩
abbrev main_cst_2 : Ref sig .tc := ⟨.hbm, 118, rfl⟩
abbrev main_v66 : Ref sig .tc := ⟨.hbm, 119, rfl⟩
abbrev main_cst_3 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_4 : Ref sig .tc := ⟨.hbm, 132, rfl⟩
abbrev main_v78 : Ref sig .tc := ⟨.hbm, 133, rfl⟩
abbrev main_c_5 : Ref sig .tc := ⟨.hbm, 134, rfl⟩
abbrev main_v79_0 : Ref sig .tc := ⟨.hbm, 135, rfl⟩
abbrev main_v79_1 : Ref sig .tc := ⟨.hbm, 136, rfl⟩
abbrev main_v79_2 : Ref sig .tc := ⟨.hbm, 137, rfl⟩
abbrev main_v79_3 : Ref sig .tc := ⟨.hbm, 138, rfl⟩
abbrev main_v79_4 : Ref sig .tc := ⟨.hbm, 139, rfl⟩
abbrev main_v79_5 : Ref sig .tc := ⟨.hbm, 140, rfl⟩
abbrev main_v79_6 : Ref sig .tc := ⟨.hbm, 141, rfl⟩
abbrev main_v79_7 : Ref sig .tc := ⟨.hbm, 142, rfl⟩
abbrev main_v79_8 : Ref sig .tc := ⟨.hbm, 143, rfl⟩
abbrev main_v79_9 : Ref sig .tc := ⟨.hbm, 144, rfl⟩
abbrev main_v79_10 : Ref sig .tc := ⟨.hbm, 145, rfl⟩
abbrev main_while0c_c_21 : Ref sig .tc := ⟨.hbm, 146, rfl⟩
abbrev main_while0c_v110 : Ref sig .tc := ⟨.hbm, 147, rfl⟩
abbrev main_while0b_call10_c : Ref sig .tc := ⟨.hbm, 148, rfl⟩
abbrev main_while0b_call10_c_0 : Ref sig .tc := ⟨.hbm, 149, rfl⟩
abbrev main_while0b_call10_c_1 : Ref sig .tc := ⟨.hbm, 150, rfl⟩
abbrev main_while0b_call10_c_2 : Ref sig .tc := ⟨.hbm, 151, rfl⟩
abbrev main_while0b_call10_v0 : Ref sig .tc := ⟨.hbm, 152, rfl⟩
abbrev main_while0b_v110 : Ref sig .tc := ⟨.hbm, 153, rfl⟩
abbrev main_while0b_call11_c : Ref sig .tc := ⟨.hbm, 154, rfl⟩
abbrev main_while0b_call11_c_0 : Ref sig .tc := ⟨.hbm, 155, rfl⟩
abbrev main_while0b_call11_c_1 : Ref sig .tc := ⟨.hbm, 156, rfl⟩
abbrev main_while0b_call11_c_2 : Ref sig .tc := ⟨.hbm, 157, rfl⟩
abbrev main_while0b_call11_v0 : Ref sig .tc := ⟨.hbm, 158, rfl⟩
abbrev main_while0b_v111 : Ref sig .tc := ⟨.hbm, 159, rfl⟩
abbrev main_while0b_call12_c : Ref sig .tc := ⟨.hbm, 160, rfl⟩
abbrev main_while0b_call12_c_0 : Ref sig .tc := ⟨.hbm, 161, rfl⟩
abbrev main_while0b_call12_c_1 : Ref sig .tc := ⟨.hbm, 162, rfl⟩
abbrev main_while0b_call12_c_2 : Ref sig .tc := ⟨.hbm, 163, rfl⟩
abbrev main_while0b_call12_v0 : Ref sig .tc := ⟨.hbm, 164, rfl⟩
abbrev main_while0b_v112 : Ref sig .tc := ⟨.hbm, 165, rfl⟩
abbrev main_while0b_call13_c : Ref sig .tc := ⟨.hbm, 166, rfl⟩
abbrev main_while0b_call13_c_0 : Ref sig .tc := ⟨.hbm, 167, rfl⟩
abbrev main_while0b_call13_c_1 : Ref sig .tc := ⟨.hbm, 168, rfl⟩
abbrev main_while0b_call13_v0 : Ref sig .tc := ⟨.hbm, 169, rfl⟩
abbrev main_while0b_v113 : Ref sig .tc := ⟨.hbm, 170, rfl⟩
abbrev main_while0b_call14_c : Ref sig .tc := ⟨.hbm, 171, rfl⟩
abbrev main_while0b_call14_c_0 : Ref sig .tc := ⟨.hbm, 172, rfl⟩
abbrev main_while0b_call14_c_1 : Ref sig .tc := ⟨.hbm, 173, rfl⟩
abbrev main_while0b_call14_v0 : Ref sig .tc := ⟨.hbm, 174, rfl⟩
abbrev main_while0b_v114 : Ref sig .tc := ⟨.hbm, 175, rfl⟩
abbrev main_while0b_call15_call0_cst : Ref sig .tc := ⟨.hbm, 176, rfl⟩
abbrev main_while0b_call15_call0_v0 : Ref sig .tc := ⟨.hbm, 177, rfl⟩
abbrev main_while0b_v115 : Ref sig .tc := ⟨.hbm, 178, rfl⟩
abbrev main_while0b_v116 : Ref sig .tc := ⟨.hbm, 179, rfl⟩
abbrev main_while0b_v117 : Ref sig .tc := ⟨.hbm, 180, rfl⟩
abbrev main_while0b_v118 : Ref sig .tc := ⟨.hbm, 181, rfl⟩
abbrev main_while0b_v119 : Ref sig .tc := ⟨.hbm, 182, rfl⟩
abbrev main_while0b_v120 : Ref sig .tc := ⟨.hbm, 183, rfl⟩
abbrev main_while0b_v121 : Ref sig .tc := ⟨.hbm, 184, rfl⟩
abbrev main_while0b_cst_21 : Ref sig .tc := ⟨.hbm, 185, rfl⟩
abbrev main_while0b_v122 : Ref sig .tc := ⟨.hbm, 186, rfl⟩
abbrev main_while0b_v123 : Ref sig .tc := ⟨.hbm, 187, rfl⟩
abbrev main_while0b_v124 : Ref sig .tc := ⟨.hbm, 188, rfl⟩
abbrev main_while0b_v125 : Ref sig .tc := ⟨.hbm, 189, rfl⟩
abbrev main_while0b_v126 : Ref sig .tc := ⟨.hbm, 190, rfl⟩
abbrev main_while0b_v127 : Ref sig .tc := ⟨.hbm, 191, rfl⟩
abbrev main_while0b_v128 : Ref sig .tc := ⟨.hbm, 192, rfl⟩
abbrev main_while0b_v129 : Ref sig .tc := ⟨.hbm, 193, rfl⟩
abbrev main_while0b_v130 : Ref sig .tc := ⟨.hbm, 194, rfl⟩
abbrev main_while0b_v131 : Ref sig .tc := ⟨.hbm, 195, rfl⟩
abbrev main_while0b_v132 : Ref sig .tc := ⟨.hbm, 196, rfl⟩
abbrev main_while0b_v133 : Ref sig .tc := ⟨.hbm, 197, rfl⟩
abbrev main_while0b_v134 : Ref sig .tc := ⟨.hbm, 198, rfl⟩
abbrev main_while0b_v135 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_v142 : Ref sig .tc := ⟨.hbm, 206, rfl⟩
abbrev main_while0b_v143 : Ref sig .tc := ⟨.hbm, 207, rfl⟩
abbrev main_while0b_v144 : Ref sig .tc := ⟨.hbm, 208, rfl⟩
abbrev main_while0b_v145 : Ref sig .tc := ⟨.hbm, 209, rfl⟩
abbrev main_while0b_v146 : Ref sig .tc := ⟨.hbm, 210, rfl⟩
abbrev main_while0b_v147 : Ref sig .tc := ⟨.hbm, 211, rfl⟩
abbrev main_while0b_v148 : Ref sig .tc := ⟨.hbm, 212, rfl⟩
abbrev main_while0b_v149 : Ref sig .tc := ⟨.hbm, 213, rfl⟩
abbrev main_while0b_v150 : Ref sig .tc := ⟨.hbm, 214, rfl⟩
abbrev main_while0b_v151 : Ref sig .tc := ⟨.hbm, 215, rfl⟩
abbrev main_while0b_v152 : Ref sig .tc := ⟨.hbm, 216, rfl⟩
abbrev main_while0b_v153 : Ref sig .tc := ⟨.hbm, 217, rfl⟩
abbrev main_while0b_v154 : Ref sig .tc := ⟨.hbm, 218, rfl⟩
abbrev main_while0b_v155 : Ref sig .tc := ⟨.hbm, 219, rfl⟩
abbrev main_while0b_v156 : Ref sig .tc := ⟨.hbm, 220, rfl⟩
abbrev main_while0b_v157 : Ref sig .tc := ⟨.hbm, 221, rfl⟩
abbrev main_while0b_v158 : Ref sig .tc := ⟨.hbm, 222, rfl⟩
abbrev main_while0b_v159 : Ref sig .tc := ⟨.hbm, 223, rfl⟩
abbrev main_while0b_v160 : Ref sig .tc := ⟨.hbm, 224, rfl⟩
abbrev main_while0b_cst_22 : Ref sig .tc := ⟨.hbm, 225, rfl⟩
abbrev main_while0b_call16_v0 : Ref sig .tc := ⟨.hbm, 226, rfl⟩
abbrev main_while0b_call16_v1 : Ref sig .tc := ⟨.hbm, 227, rfl⟩
abbrev main_while0b_call16_v2 : Ref sig .tc := ⟨.hbm, 228, rfl⟩
abbrev main_while0b_v161 : Ref sig .tc := ⟨.hbm, 229, rfl⟩
abbrev main_while0b_v162 : Ref sig .tc := ⟨.hbm, 230, rfl⟩
abbrev main_while0b_v163 : Ref sig .tc := ⟨.hbm, 231, rfl⟩
abbrev main_while0b_v164 : Ref sig .tc := ⟨.hbm, 232, rfl⟩
abbrev main_while0b_cst_23 : Ref sig .tc := ⟨.hbm, 233, rfl⟩
abbrev main_while0b_v165 : Ref sig .tc := ⟨.hbm, 234, rfl⟩
abbrev main_while0b_v166 : Ref sig .tc := ⟨.hbm, 235, rfl⟩
abbrev main_while0b_v167 : Ref sig .tc := ⟨.hbm, 236, rfl⟩
abbrev main_while0b_v168 : Ref sig .tc := ⟨.hbm, 237, rfl⟩
abbrev main_while0b_v169 : Ref sig .tc := ⟨.hbm, 238, rfl⟩
abbrev main_while0b_v170 : Ref sig .tc := ⟨.hbm, 239, rfl⟩
abbrev main_while0b_v171 : Ref sig .tc := ⟨.hbm, 240, rfl⟩
abbrev main_while0b_v172 : Ref sig .tc := ⟨.hbm, 241, rfl⟩
abbrev main_while0b_v173 : Ref sig .tc := ⟨.hbm, 242, rfl⟩
abbrev main_while0b_v174 : Ref sig .tc := ⟨.hbm, 243, rfl⟩
abbrev main_while0b_v175 : Ref sig .tc := ⟨.hbm, 244, rfl⟩
abbrev main_while0b_v176 : Ref sig .tc := ⟨.hbm, 245, rfl⟩
abbrev main_while0b_v177 : Ref sig .tc := ⟨.hbm, 246, rfl⟩
abbrev main_while0b_v178 : Ref sig .tc := ⟨.hbm, 247, rfl⟩
abbrev main_while0b_v179 : Ref sig .tc := ⟨.hbm, 248, rfl⟩
abbrev main_while0b_v180 : Ref sig .tc := ⟨.hbm, 249, rfl⟩
abbrev main_while0b_cst_24 : Ref sig .tc := ⟨.hbm, 250, rfl⟩
abbrev main_while0b_v181 : Ref sig .tc := ⟨.hbm, 251, rfl⟩
abbrev main_while0b_v182 : Ref sig .tc := ⟨.hbm, 252, rfl⟩
abbrev main_while0b_v183 : Ref sig .tc := ⟨.hbm, 253, rfl⟩
abbrev main_while0b_v184 : Ref sig .tc := ⟨.hbm, 254, rfl⟩
abbrev main_while0b_v185 : Ref sig .tc := ⟨.hbm, 255, rfl⟩
abbrev main_while0b_v186 : Ref sig .tc := ⟨.hbm, 256, rfl⟩
abbrev main_while0b_v187 : Ref sig .tc := ⟨.hbm, 257, rfl⟩
abbrev main_while0b_v188 : Ref sig .tc := ⟨.hbm, 258, rfl⟩
abbrev main_while0b_v189 : Ref sig .tc := ⟨.hbm, 259, rfl⟩
abbrev main_while0b_v190 : Ref sig .tc := ⟨.hbm, 260, rfl⟩
abbrev main_while0b_v191 : Ref sig .tc := ⟨.hbm, 261, rfl⟩
abbrev main_while0b_call17_v0 : Ref sig .tc := ⟨.hbm, 262, rfl⟩
abbrev main_while0b_call17_c : Ref sig .tc := ⟨.hbm, 263, rfl⟩
abbrev main_while0b_call17_c_0 : Ref sig .tc := ⟨.hbm, 264, rfl⟩
abbrev main_while0b_call17_c_1 : Ref sig .tc := ⟨.hbm, 265, rfl⟩
abbrev main_while0b_call17_c_2 : Ref sig .tc := ⟨.hbm, 266, rfl⟩
abbrev main_while0b_v192 : Ref sig .tc := ⟨.hbm, 267, rfl⟩
abbrev main_while0b_c_25 : Ref sig .tc := ⟨.hbm, 268, rfl⟩
abbrev main_while0b_v193 : Ref sig .tc := ⟨.hbm, 269, rfl⟩
abbrev main_v80 : Ref sig .tc := ⟨.hbm, 270, rfl⟩
abbrev main_v81 : Ref sig .tc := ⟨.hbm, 271, rfl⟩
abbrev main_v82 : Ref sig .tc := ⟨.hbm, 272, rfl⟩
abbrev main_v83 : Ref sig .tc := ⟨.hbm, 273, rfl⟩
abbrev main_v84 : Ref sig .tc := ⟨.hbm, 274, rfl⟩
abbrev main_v85 : Ref sig .tc := ⟨.hbm, 275, rfl⟩
abbrev main_v86 : Ref sig .tc := ⟨.hbm, 276, rfl⟩
abbrev main_v87 : Ref sig .tc := ⟨.hbm, 277, rfl⟩
abbrev main_v88 : Ref sig .tc := ⟨.hbm, 278, rfl⟩
abbrev main_cst_6 : Ref sig .tc := ⟨.hbm, 279, rfl⟩
abbrev main_v89 : Ref sig .tc := ⟨.hbm, 280, rfl⟩
abbrev main_v90 : Ref sig .tc := ⟨.hbm, 281, rfl⟩
abbrev main_cst_7 : Ref sig .tc := ⟨.hbm, 282, rfl⟩
abbrev main_v91 : Ref sig .tc := ⟨.hbm, 283, rfl⟩
abbrev main_v92 : Ref sig .tc := ⟨.hbm, 284, rfl⟩
abbrev main_cst_8 : Ref sig .tc := ⟨.hbm, 285, rfl⟩
abbrev main_v93 : Ref sig .tc := ⟨.hbm, 286, rfl⟩
abbrev main_v94 : Ref sig .tc := ⟨.hbm, 287, rfl⟩
abbrev main_v95 : Ref sig .tc := ⟨.hbm, 288, rfl⟩
abbrev main_v96 : Ref sig .tc := ⟨.hbm, 289, rfl⟩
abbrev main_v97 : Ref sig .tc := ⟨.hbm, 290, rfl⟩
abbrev main_v98 : Ref sig .tc := ⟨.hbm, 291, rfl⟩
abbrev main_v99 : Ref sig .tc := ⟨.hbm, 292, rfl⟩
abbrev main_v100 : Ref sig .tc := ⟨.hbm, 293, rfl⟩
abbrev main_v101 : Ref sig .tc := ⟨.hbm, 294, rfl⟩
abbrev main_v102 : Ref sig .tc := ⟨.hbm, 295, rfl⟩
abbrev main_v103 : Ref sig .tc := ⟨.hbm, 296, rfl⟩
abbrev main_v104 : Ref sig .tc := ⟨.hbm, 297, rfl⟩
abbrev main_cst_9 : Ref sig .tc := ⟨.hbm, 298, rfl⟩
abbrev main_v105 : Ref sig .tc := ⟨.hbm, 299, rfl⟩
abbrev main_v106 : Ref sig .tc := ⟨.hbm, 300, rfl⟩
abbrev main_cst_10 : Ref sig .tc := ⟨.hbm, 301, rfl⟩
abbrev main_v107 : Ref sig .tc := ⟨.hbm, 302, rfl⟩
abbrev main_v108 : Ref sig .tc := ⟨.hbm, 303, rfl⟩
abbrev main_v109 : Ref sig .tc := ⟨.hbm, 304, rfl⟩

abbrev nD : Nat := 1
abbrev τ : Topo := Topo.v7x

variable {F : FTy → Type} [FloatOps F]

def κ : String → Option EReal := fun
  | "mask" => some ⊥
  | _ => none

abbrev main_while0_count : Scf.Loop 32 := ⟨0#32, 32#32, 1#32⟩
-- ==== Kernel2.lean ====
abbrev S8x16x512x1024 : Shape := ⟨4, ![8, 16, 512, 1024]⟩
abbrev S8x16x16x512 : Shape := ⟨4, ![8, 16, 16, 512]⟩
abbrev S16x1024x2048 : Shape := ⟨3, ![16, 1024, 2048]⟩
abbrev S16x2048x1024 : Shape := ⟨3, ![16, 2048, 1024]⟩
abbrev S1x1x512x1024 : Shape := ⟨4, ![1, 1, 512, 1024]⟩
abbrev S1x1x16x512 : Shape := ⟨4, ![1, 1, 16, 512]⟩
abbrev S1x1024x2048 : Shape := ⟨3, ![1, 1024, 2048]⟩
abbrev S1x2048x1024 : Shape := ⟨3, ![1, 2048, 1024]⟩
abbrev S2048x1024 : Shape := ⟨2, ![2048, 1024]⟩
abbrev S512x1024 : Shape := ⟨2, ![512, 1024]⟩
abbrev S1x512x1024 : Shape := ⟨3, ![1, 512, 1024]⟩
abbrev S1x1024x512 : Shape := ⟨3, ![1, 1024, 512]⟩
abbrev S1024x512 : Shape := ⟨2, ![1024, 512]⟩
abbrev S512x512 : Shape := ⟨2, ![512, 512]⟩
abbrev S16x512 : Shape := ⟨2, ![16, 512]⟩
abbrev S1x512 : Shape := ⟨2, ![1, 512]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8x16x512x1024, .f32⟩
  | .hbm, ⟨1, _⟩ => ⟨S8x16x16x512, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S8x16x512x1024, .bf16⟩
  | .hbm, ⟨6, _⟩ => ⟨S16x1024x2048, .bf16⟩
  | .hbm, ⟨7, _⟩ => ⟨S16x1024x2048, .bf16⟩
  | .hbm, ⟨8, _⟩ => ⟨S8x16x512x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x1x16x512, .f32⟩
  | .local _ .vmem, ⟨3, _⟩ => ⟨S1x1x16x512, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x1024, .f32⟩
  | .local _ .vmem, ⟨9, _⟩ => ⟨S1x2048x1024, .f32⟩
  | .local _ .vmem, ⟨10, _⟩ => ⟨S1x1x512x1024, .bf16⟩
  | .local _ .vmem, ⟨11, _⟩ => ⟨S1x1x512x1024, .bf16⟩
  | .local _ .vmem, ⟨12, _⟩ => ⟨S2048x1024, .bf16⟩
  | _, _ => ⟨S8x16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x16x512x1024 : Shape := ⟨4, ![8, 16, 512, 1024]⟩
abbrev S8x16x16x512 : Shape := ⟨4, ![8, 16, 16, 512]⟩
abbrev S16x1024x2048 : Shape := ⟨3, ![16, 1024, 2048]⟩
abbrev S16x2048x1024 : Shape := ⟨3, ![16, 2048, 1024]⟩
abbrev S8x16x1x512 : Shape := ⟨4, ![8, 16, 1, 512]⟩
abbrev S8x16x512 : Shape := ⟨3, ![8, 16, 512]⟩
abbrev S16x2048x8x512 : Shape := ⟨4, ![16, 2048, 8, 512]⟩
abbrev S8x16x512x2048 : Shape := ⟨4, ![8, 16, 512, 2048]⟩
abbrev S_ : Shape := ⟨0, ![]⟩
abbrev S16x1024x8x512 : Shape := ⟨4, ![16, 1024, 8, 512]⟩
abbrev S8x16x512x1 : Shape := ⟨4, ![8, 16, 512, 1]⟩

abbrev nBuf : Space → Nat
  | .hbm => 33
  | .vmem => 0
  | .smem => 0
  | _ => 0

abbrev bufTy : (tb : Table) → Fin (tcTables nBuf tb) → BufTy
  | .hbm, ⟨0, _⟩ => ⟨S8x16x512x1024, .f32⟩
  | .hbm, ⟨1, _⟩ => ⟨S8x16x16x512, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S8x16x1x512, .f32⟩
  | .hbm, ⟨6, _⟩ => ⟨S8x16x512, .f32⟩
  | .hbm, ⟨7, _⟩ => ⟨S8x16x1x512, .f32⟩
  | .hbm, ⟨8, _⟩ => ⟨S8x16x512, .f32⟩
  | .hbm, ⟨9, _⟩ => ⟨S8x16x512, .f32⟩
  | .hbm, ⟨10, _⟩ => ⟨S8x16x1x512, .f32⟩
  | .hbm, ⟨11, _⟩ => ⟨S8x16x512, .f32⟩
  | .hbm, ⟨12, _⟩ => ⟨S8x16x512, .f32⟩
  | .hbm, ⟨13, _⟩ => ⟨S16x2048x8x512, .f32⟩
  | .hbm, ⟨14, _⟩ => ⟨S8x16x512x2048, .f32⟩
  | .hbm, ⟨15, _⟩ => ⟨S8x16x512x2048, .f32⟩
  | .hbm, ⟨16, _⟩ => ⟨S8x16x512x2048, .f32⟩
  | .hbm, ⟨17, _⟩ => ⟨S_, .f32⟩
  | .hbm, ⟨18, _⟩ => ⟨S8x16x512x2048, .f32⟩
  | .hbm, ⟨19, _⟩ => ⟨S8x16x512x2048, .f32⟩
  | .hbm, ⟨20, _⟩ => ⟨S_, .f32⟩
  | .hbm, ⟨21, _⟩ => ⟨S8x16x512x2048, .f32⟩
  | .hbm, ⟨22, _⟩ => ⟨S8x16x512x2048, .f32⟩
  | .hbm, ⟨23, _⟩ => ⟨S8x16x512x2048, .f32⟩
  | .hbm, ⟨24, _⟩ => ⟨S16x2048x8x512, .f32⟩
  | .hbm, ⟨25, _⟩ => ⟨S8x16x512x2048, .f32⟩
  | .hbm, ⟨26, _⟩ => ⟨S8x16x512x2048, .f32⟩
  | .hbm, ⟨27, _⟩ => ⟨S16x1024x8x512, .f32⟩
  | .hbm, ⟨28, _⟩ => ⟨S8x16x512x1024, .f32⟩
  | .hbm, ⟨29, _⟩ => ⟨S8x16x512x1, .f32⟩
  | .hbm, ⟨30, _⟩ => ⟨S8x16x512x1024, .f32⟩
  | .hbm, ⟨31, _⟩ => ⟨S8x16x512x1024, .f32⟩
  | .hbm, ⟨32, _⟩ => ⟨S8x16x512x1024, .bf16⟩
  | _, _ => ⟨S8x16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x1024 : Shape := ⟨2, ![8, 1024]⟩
abbrev S1024 : Shape := ⟨1, ![1024]⟩
abbrev S1024x3600 : Shape := ⟨2, ![1024, 3600]⟩
abbrev S3600 : Shape := ⟨1, ![3600]⟩
abbrev S1024x2048 : Shape := ⟨2, ![1024, 2048]⟩
abbrev S1024x1536 : Shape := ⟨2, ![1024, 1536]⟩
abbrev S2048 : Shape := ⟨1, ![2048]⟩
abbrev S1x2048 : Shape := ⟨2, ![1, 2048]⟩
abbrev S1536 : Shape := ⟨1, ![1536]⟩
abbrev S1x1536 : Shape := ⟨2, ![1, 1536]⟩
abbrev S1024x16 : Shape := ⟨2, ![1024, 16]⟩
abbrev S16x1024 : Shape := ⟨2, ![16, 1024]⟩
abbrev S4x4x1024 : Shape := ⟨3, ![4, 4, 1024]⟩
abbrev S_ : Shape := ⟨0, ![]⟩
abbrev S4x8x1024 : Shape := ⟨3, ![4, 8, 1024]⟩
abbrev S32x1024 : Shape := ⟨2, ![32, 1024]⟩
abbrev S16 : Shape := ⟨1, ![16]⟩
abbrev S16x1 : Shape := ⟨2, ![16, 1]⟩
abbrev S4x4x1 : Shape := ⟨3, ![4, 4, 1]⟩
abbrev S4x8x1 : Shape := ⟨3, ![4, 8, 1]⟩
abbrev S32x1 : Shape := ⟨2, ![32, 1]⟩
abbrev S8x1x1024 : Shape := ⟨3, ![8, 1, 1024]⟩
abbrev S1x1024 : Shape := ⟨2, ![1, 1024]⟩
abbrev S8x4096x2048 : Shape := ⟨3, ![8, 4096, 2048]⟩
abbrev S8x4096x1536 : Shape := ⟨3, ![8, 4096, 1536]⟩
abbrev S8x32x4096 : Shape := ⟨3, ![8, 32, 4096]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x1536 : Shape := ⟨3, ![1, 512, 1536]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩
abbrev S32x512 : Shape := ⟨2, ![32, 512]⟩

abbrev nBuf : Space → Nat
  | .hbm => 36
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3600, .f32⟩
  | .hbm, ⟨5, _⟩ => ⟨S3600, .f32⟩
  | .hbm, ⟨6, _⟩ => ⟨S1024x2048, .f32⟩
  | .hbm, ⟨7, _⟩ => ⟨S1024x2048, .bf16⟩
  | .hbm, ⟨8, _⟩ => ⟨S1024x1536, .f32⟩
  | .hbm, ⟨9, _⟩ => ⟨S1024x1536, .bf16⟩
  | .hbm, ⟨10, _⟩ => ⟨S2048, .f32⟩
  | .hbm, ⟨11, _⟩ => ⟨S1x2048, .f32⟩
  | .hbm, ⟨12, _⟩ => ⟨S1536, .f32⟩
  | .hbm, ⟨13, _⟩ => ⟨S1x1536, .f32⟩
  | .hbm, ⟨14, _⟩ => ⟨S1024x16, .f32⟩
  | .hbm, ⟨15, _⟩ => ⟨S16x1024, .f32⟩
  | .hbm, ⟨16, _⟩ => ⟨S4x4x1024, .f32⟩
  | .hbm, ⟨17, _⟩ => ⟨S4x4x1024, .f32⟩
  | .hbm, ⟨18, _⟩ => ⟨S_, .i32⟩
  | .hbm, ⟨19, _⟩ => ⟨S_, .f32⟩
  | .hbm, ⟨20, _⟩ => ⟨S4x8x1024, .f32⟩
  | .hbm, ⟨21, _⟩ => ⟨S32x1024, .f32⟩
  | .hbm, ⟨22, _⟩ => ⟨S16, .f32⟩
  | .hbm, ⟨23, _⟩ => ⟨S16x1, .f32⟩
  | .hbm, ⟨24, _⟩ => ⟨S4x4x1, .f32⟩
  | .hbm, ⟨25, _⟩ => ⟨S4x4x1, .f32⟩
  | .hbm, ⟨26, _⟩ => ⟨S_, .i32⟩
  | .hbm, ⟨27, _⟩ => ⟨S_, .f32⟩
  | .hbm, ⟨28, _⟩ => ⟨S4x8x1, .f32⟩
  | .hbm, ⟨29, _⟩ => ⟨S32x1, .f32⟩
  | .hbm, ⟨30, _⟩ => ⟨S8x1x1024, .f32⟩
  | .hbm, ⟨31, _⟩ => ⟨S8x1x1024, .f32⟩
  | .hbm, ⟨32, _⟩ => ⟨S1x1024, .f32⟩
  | .hbm, ⟨33, _⟩ => ⟨S8x4096x2048, .f32⟩
  | .hbm, ⟨34, _⟩ => ⟨S8x4096x1536, .f32⟩
  | .hbm, ⟨35, _⟩ => ⟨S8x32x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S1024x1536, .bf16⟩
  | .local _ .vmem, ⟨10, _⟩ => ⟨S1x1536, .f32⟩
  | .local _ .vmem, ⟨11, _⟩ => ⟨S32x1024, .f32⟩
  | .local _ .vmem, ⟨12, _⟩ => ⟨S32x1, .f32⟩
  | .local _ .vmem, ⟨13, _⟩ => ⟨S1x512x2048, .f32⟩
  | .local _ .vmem, ⟨14, _⟩ => ⟨S1x512x2048, .f32⟩
  | .local _ .vmem, ⟨15, _⟩ => ⟨S1x512x1536, .f32⟩
  | .local _ .vmem, ⟨16, _⟩ => ⟨S1x512x1536, .f32⟩
  | .local _ .vmem, ⟨17, _⟩ => ⟨S1x32x512, .f32⟩
  | .local _ .vmem, ⟨18, _⟩ => ⟨S1x32x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S8x1024 : Shape := ⟨2, ![8, 1024]⟩
abbrev S1024 : Shape := ⟨1, ![1024]⟩
abbrev S1024x3600 : Shape := ⟨2, ![1024, 3600]⟩
abbrev S3600 : Shape := ⟨1, ![3600]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3600 : Shape := ⟨3, ![8, 4096, 3600]⟩
abbrev S1x1x3600 : Shape := ⟨3, ![1, 1, 3600]⟩
abbrev S8x4096x2048 : Shape := ⟨3, ![8, 4096, 2048]⟩
abbrev S8x4096x1536 : Shape := ⟨3, ![8, 4096, 1536]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3600, .f32⟩
  | .hbm, ⟨5, _⟩ => ⟨S3600, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x3600, .f32⟩
  | .hbm, ⟨32, _⟩ => ⟨S1x1x3600, .f32⟩
  | .hbm, ⟨33, _⟩ => ⟨S8x4096x3600, .f32⟩
  | .hbm, ⟨34, _⟩ => ⟨S8x4096x3600, .f32⟩
  | .hbm, ⟨35, _⟩ => ⟨S8x4096x2048, .f32⟩
  | .hbm, ⟨36, _⟩ => ⟨S8x4096x1536, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S8x4096x512 : Shape := ⟨3, ![8, 4096, 512]⟩
abbrev S8x4096x1024 : Shape := ⟨3, ![8, 4096, 1024]⟩
abbrev S8x1024 : Shape := ⟨2, ![8, 1024]⟩
abbrev S1024 : Shape := ⟨1, ![1024]⟩
abbrev S1024x1024 : Shape := ⟨2, ![1024, 1024]⟩
abbrev S1024x16 : Shape := ⟨2, ![1024, 16]⟩
abbrev S512x1024 : Shape := ⟨2, ![512, 1024]⟩
abbrev S16x1024 : Shape := ⟨2, ![16, 1024]⟩
abbrev S1x1024 : Shape := ⟨2, ![1, 1024]⟩
abbrev S8x1x1024 : Shape := ⟨3, ![8, 1, 1024]⟩
abbrev S8x16x4096 : Shape := ⟨3, ![8, 16, 4096]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S512x512 : Shape := ⟨2, ![512, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 21
  | .vmem => 22
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S1024, .f32⟩
  | .hbm, ⟨7, _⟩ => ⟨S1024x1024, .f32⟩
  | .hbm, ⟨8, _⟩ => ⟨S1024x16, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S16x1024, .f32⟩
  | .hbm, ⟨14, _⟩ => ⟨S1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .bf16⟩
  | .hbm, ⟨20, _⟩ => ⟨S8x16x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S16x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x16x512, .f32⟩
  | .local _ .vmem, ⟨21, _⟩ => ⟨S1x16x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8x4096x512 : Shape := ⟨3, ![8, 4096, 512]⟩
abbrev S8x4096x1024 : Shape := ⟨3, ![8, 4096, 1024]⟩
abbrev S8x1024 : Shape := ⟨2, ![8, 1024]⟩
abbrev S1024 : Shape := ⟨1, ![1024]⟩
abbrev S1024x1024 : Shape := ⟨2, ![1024, 1024]⟩
abbrev S1024x16 : Shape := ⟨2, ![1024, 16]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S1024, .f32⟩
  | .hbm, ⟨7, _⟩ => ⟨S1024x1024, .f32⟩
  | .hbm, ⟨8, _⟩ => ⟨S1024x16, .f32⟩
  | .hbm, ⟨9, _⟩ => ⟨S8x4096x1024, .f32⟩
  | .hbm, ⟨10, _⟩ => ⟨S8x4096x1024, .f32⟩
  | .hbm, ⟨11, _⟩ => ⟨S8x1x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x1024, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel5.lean ====
abbrev S8x4096x512 : Shape := ⟨3, ![8, 4096, 512]⟩
abbrev S8x4096x1024 : Shape := ⟨3, ![8, 4096, 1024]⟩
abbrev S8x1024 : Shape := ⟨2, ![8, 1024]⟩
abbrev S1024 : Shape := ⟨1, ![1024]⟩
abbrev S1024x1024 : Shape := ⟨2, ![1024, 1024]⟩
abbrev S1024x16 : Shape := ⟨2, ![1024, 16]⟩
abbrev S512x1024 : Shape := ⟨2, ![512, 1024]⟩
abbrev S16x1024 : Shape := ⟨2, ![16, 1024]⟩
abbrev S1x1024 : Shape := ⟨2, ![1, 1024]⟩
abbrev S8x1x1024 : Shape := ⟨3, ![8, 1, 1024]⟩
abbrev S8x16x4096 : Shape := ⟨3, ![8, 16, 4096]⟩
abbrev S1x512x512 : Shape := ⟨3, ![1, 512, 512]⟩
abbrev S1x512x1024 : Shape := ⟨3, ![1, 512, 1024]⟩
abbrev S1x1x1024 : Shape := ⟨3, ![1, 1, 1024]⟩
abbrev S1x16x512 : Shape := ⟨3, ![1, 16, 512]⟩
abbrev S512x512 : Shape := ⟨2, ![512, 512]⟩
abbrev S512 : Shape := ⟨1, ![512]⟩
abbrev S512x1 : Shape := ⟨2, ![512, 1]⟩
abbrev S16x512 : Shape := ⟨2, ![16, 512]⟩
abbrev S1x512 : Shape := ⟨2, ![1, 512]⟩

abbrev nBuf : Space → Nat
  | .hbm => 21
  | .vmem => 22
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S1024, .f32⟩
  | .hbm, ⟨7, _⟩ => ⟨S1024x1024, .f32⟩
  | .hbm, ⟨8, _⟩ => ⟨S1024x16, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S16x1024, .f32⟩
  | .hbm, ⟨14, _⟩ => ⟨S1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S8x4096x1024, .bf16⟩
  | .hbm, ⟨20, _⟩ => ⟨S8x16x4096, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S16x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .bf16⟩
  | .local _ .vmem, ⟨19, _⟩ => ⟨S1x512x1024, .bf16⟩
  | .local _ .vmem, ⟨20, _⟩ => ⟨S1x16x512, .f32⟩
  | .local _ .vmem, ⟨21, _⟩ => ⟨S1x16x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S8x4096x512 : Shape := ⟨3, ![8, 4096, 512]⟩
abbrev S8x4096x1024 : Shape := ⟨3, ![8, 4096, 1024]⟩
abbrev S8x1024 : Shape := ⟨2, ![8, 1024]⟩
abbrev S1024 : Shape := ⟨1, ![1024]⟩
abbrev S1024x1024 : Shape := ⟨2, ![1024, 1024]⟩
abbrev S1024x16 : Shape := ⟨2, ![1024, 16]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S8x16x4096 : Shape := ⟨3, ![8, 16, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S1024, .f32⟩
  | .hbm, ⟨7, _⟩ => ⟨S1024x1024, .f32⟩
  | .hbm, ⟨8, _⟩ => ⟨S1024x16, .f32⟩
  | .hbm, ⟨9, _⟩ => ⟨S8x4096x1024, .f32⟩
  | .hbm, ⟨10, _⟩ => ⟨S8x4096x1024, .f32⟩
  | .hbm, ⟨11, _⟩ => ⟨S8x1x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S1x1x1024, .f32⟩
  | .hbm, ⟨29, _⟩ => ⟨S8x4096x1024, .f32⟩
  | .hbm, ⟨30, _⟩ => ⟨S8x4096x1024, .f32⟩
  | .hbm, ⟨31, _⟩ => ⟨S8x1x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x4096x16, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096x1, .f32⟩
  | .hbm, ⟨47, _⟩ => ⟨S8x4096x16, .f32⟩
  | .hbm, ⟨48, _⟩ => ⟨S8x4096x16, .f32⟩
  | .hbm, ⟨49, _⟩ => ⟨S8x4096x16, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S8x4096x16, .f32⟩
  | .hbm, ⟨54, _⟩ => ⟨S8x4096x16, .f32⟩
  | .hbm, ⟨55, _⟩ => ⟨S8x16x4096, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x1024 : Shape := ⟨2, ![8, 1024]⟩
abbrev S1024 : Shape := ⟨1, ![1024]⟩
abbrev S1024x3600 : Shape := ⟨2, ![1024, 3600]⟩
abbrev S3600 : Shape := ⟨1, ![3600]⟩
abbrev S1024x2048 : Shape := ⟨2, ![1024, 2048]⟩
abbrev S1024x1536 : Shape := ⟨2, ![1024, 1536]⟩
abbrev S2048 : Shape := ⟨1, ![2048]⟩
abbrev S1x2048 : Shape := ⟨2, ![1, 2048]⟩
abbrev S1536 : Shape := ⟨1, ![1536]⟩
abbrev S1x1536 : Shape := ⟨2, ![1, 1536]⟩
abbrev S1024x16 : Shape := ⟨2, ![1024, 16]⟩
abbrev S16x1024 : Shape := ⟨2, ![16, 1024]⟩
abbrev S4x4x1024 : Shape := ⟨3, ![4, 4, 1024]⟩
abbrev S_ : Shape := ⟨0, ![]⟩
abbrev S4x8x1024 : Shape := ⟨3, ![4, 8, 1024]⟩
abbrev S32x1024 : Shape := ⟨2, ![32, 1024]⟩
abbrev S16 : Shape := ⟨1, ![16]⟩
abbrev S16x1 : Shape := ⟨2, ![16, 1]⟩
abbrev S4x4x1 : Shape := ⟨3, ![4, 4, 1]⟩
abbrev S4x8x1 : Shape := ⟨3, ![4, 8, 1]⟩
abbrev S32x1 : Shape := ⟨2, ![32, 1]⟩
abbrev S8x1x1024 : Shape := ⟨3, ![8, 1, 1024]⟩
abbrev S1x1024 : Shape := ⟨2, ![1, 1024]⟩
abbrev S8x4096x2048 : Shape := ⟨3, ![8, 4096, 2048]⟩
abbrev S8x4096x1536 : Shape := ⟨3, ![8, 4096, 1536]⟩
abbrev S8x32x4096 : Shape := ⟨3, ![8, 32, 4096]⟩
abbrev S1x512x1024 : Shape := ⟨3, ![1, 512, 1024]⟩
abbrev S1x1x1024 : Shape := ⟨3, ![1, 1, 1024]⟩
abbrev S1x512x2048 : Shape := ⟨3, ![1, 512, 2048]⟩
abbrev S1x512x1536 : Shape := ⟨3, ![1, 512, 1536]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x1536 : Shape := ⟨2, ![512, 1536]⟩
abbrev S32x512 : Shape := ⟨2, ![32, 512]⟩

abbrev nBuf : Space → Nat
  | .hbm => 36
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3600, .f32⟩
  | .hbm, ⟨5, _⟩ => ⟨S3600, .f32⟩
  | .hbm, ⟨6, _⟩ => ⟨S1024x2048, .f32⟩
  | .hbm, ⟨7, _⟩ => ⟨S1024x2048, .bf16⟩
  | .hbm, ⟨8, _⟩ => ⟨S1024x1536, .f32⟩
  | .hbm, ⟨9, _⟩ => ⟨S1024x1536, .bf16⟩
  | .hbm, ⟨10, _⟩ => ⟨S2048, .f32⟩
  | .hbm, ⟨11, _⟩ => ⟨S1x2048, .f32⟩
  | .hbm, ⟨12, _⟩ => ⟨S1536, .f32⟩
  | .hbm, ⟨13, _⟩ => ⟨S1x1536, .f32⟩
  | .hbm, ⟨14, _⟩ => ⟨S1024x16, .f32⟩
  | .hbm, ⟨15, _⟩ => ⟨S16x1024, .f32⟩
  | .hbm, ⟨16, _⟩ => ⟨S4x4x1024, .f32⟩
  | .hbm, ⟨17, _⟩ => ⟨S4x4x1024, .f32⟩
  | .hbm, ⟨18, _⟩ => ⟨S_, .i32⟩
  | .hbm, ⟨19, _⟩ => ⟨S_, .f32⟩
  | .hbm, ⟨20, _⟩ => ⟨S4x8x1024, .f32⟩
  | .hbm, ⟨21, _⟩ => ⟨S32x1024, .f32⟩
  | .hbm, ⟨22, _⟩ => ⟨S16, .f32⟩
  | .hbm, ⟨23, _⟩ => ⟨S16x1, .f32⟩
  | .hbm, ⟨24, _⟩ => ⟨S4x4x1, .f32⟩
  | .hbm, ⟨25, _⟩ => ⟨S4x4x1, .f32⟩
  | .hbm, ⟨26, _⟩ => ⟨S_, .i32⟩
  | .hbm, ⟨27, _⟩ => ⟨S_, .f32⟩
  | .hbm, ⟨28, _⟩ => ⟨S4x8x1, .f32⟩
  | .hbm, ⟨29, _⟩ => ⟨S32x1, .f32⟩
  | .hbm, ⟨30, _⟩ => ⟨S8x1x1024, .f32⟩
  | .hbm, ⟨31, _⟩ => ⟨S8x1x1024, .f32⟩
  | .hbm, ⟨32, _⟩ => ⟨S1x1024, .f32⟩
  | .hbm, ⟨33, _⟩ => ⟨S8x4096x2048, .f32⟩
  | .hbm, ⟨34, _⟩ => ⟨S8x4096x1536, .f32⟩
  | .hbm, ⟨35, _⟩ => ⟨S8x32x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S1024x1536, .bf16⟩
  | .local _ .vmem, ⟨10, _⟩ => ⟨S1x1536, .f32⟩
  | .local _ .vmem, ⟨11, _⟩ => ⟨S32x1024, .f32⟩
  | .local _ .vmem, ⟨12, _⟩ => ⟨S32x1, .f32⟩
  | .local _ .vmem, ⟨13, _⟩ => ⟨S1x512x2048, .f32⟩
  | .local _ .vmem, ⟨14, _⟩ => ⟨S1x512x2048, .f32⟩
  | .local _ .vmem, ⟨15, _⟩ => ⟨S1x512x1536, .f32⟩
  | .local _ .vmem, ⟨16, _⟩ => ⟨S1x512x1536, .f32⟩
  | .local _ .vmem, ⟨17, _⟩ => ⟨S1x32x512, .f32⟩
  | .local _ .vmem, ⟨18, _⟩ => ⟨S1x32x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S8x4096x1024 : Shape := ⟨3, ![8, 4096, 1024]⟩
abbrev S8x1024 : Shape := ⟨2, ![8, 1024]⟩
abbrev S1024 : Shape := ⟨1, ![1024]⟩
abbrev S1024x3600 : Shape := ⟨2, ![1024, 3600]⟩
abbrev S3600 : Shape := ⟨1, ![3600]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3600 : Shape := ⟨3, ![8, 4096, 3600]⟩
abbrev S1x1x3600 : Shape := ⟨3, ![1, 1, 3600]⟩
abbrev S8x4096x16 : Shape := ⟨3, ![8, 4096, 16]⟩
abbrev S8x4096x4x4 : Shape := ⟨4, ![8, 4096, 4, 4]⟩
abbrev S8x4x4x4096 : Shape := ⟨4, ![8, 4, 4, 4096]⟩
abbrev S8x4x8x4096 : Shape := ⟨4, ![8, 4, 8, 4096]⟩
abbrev S8x32x4096 : Shape := ⟨3, ![8, 32, 4096]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8x1024, .f32⟩
  | .hbm, ⟨3, _⟩ => ⟨S1024, .f32⟩
  | .hbm, ⟨4, _⟩ => ⟨S1024x3600, .f32⟩
  | .hbm, ⟨5, _⟩ => ⟨S3600, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S8x4096x1024, .f32⟩
  | .hbm, ⟨30, _⟩ => ⟨S8x4096x1024, .f32⟩
  | .hbm, ⟨31, _⟩ => ⟨S8x4096x3600, .f32⟩
  | .hbm, ⟨32, _⟩ => ⟨S1x1x3600, .f32⟩
  | .hbm, ⟨33, _⟩ => ⟨S8x4096x3600, .f32⟩
  | .hbm, ⟨34, _⟩ => ⟨S8x4096x3600, .f32⟩
  | .hbm, ⟨35, _⟩ => ⟨S8x4096x16, .f32⟩
  | .hbm, ⟨36, _⟩ => ⟨S8x4096x4x4, .f32⟩
  | .hbm, ⟨37, _⟩ => ⟨S8x4x4x4096, .f32⟩
  | .hbm, ⟨38, _⟩ => ⟨S_, .i32⟩
  | .hbm, ⟨39, _⟩ => ⟨S_, .f32⟩
  | .hbm, ⟨40, _⟩ => ⟨S8x4x8x4096, .f32⟩
  | .hbm, ⟨41, _⟩ => ⟨S8x32x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c : Ref sig .tc := ⟨.hbm, 38, rfl⟩
abbrev main_call0_v0 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel7.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S8x6144 : Shape := ⟨2, ![8, 6144]⟩
abbrev S1024x768 : Shape := ⟨2, ![1024, 768]⟩
abbrev S1x768 : Shape := ⟨2, ![1, 768]⟩
abbrev S8x768 : Shape := ⟨2, ![8, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S8x6144, .f32⟩
  | .local _ .vmem, ⟨0, _⟩ => ⟨S8x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1x6144 : Shape := ⟨2, ![1, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x6144, .f32⟩
  | .hbm, ⟨4, _⟩ => ⟨S1x6144, .f32⟩
  | .hbm, ⟨5, _⟩ => ⟨S8x6144, .f32⟩
  | .hbm, ⟨6, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S33x64 : Shape := ⟨2, ![33, 64]⟩
abbrev S64 : Shape := ⟨1, ![64]⟩
abbrev S64x64 : Shape := ⟨2, ![64, 64]⟩
abbrev S1x64 : Shape := ⟨2, ![1, 64]⟩
abbrev S16x64 : Shape := ⟨2, ![16, 64]⟩
abbrev S8192x64 : Shape := ⟨2, ![8192, 64]⟩
abbrev S1024x64 : Shape := ⟨2, ![1024, 64]⟩
abbrev S1024x1 : Shape := ⟨2, ![1024, 1]⟩
abbrev S1x16 : Shape := ⟨2, ![1, 16]⟩
abbrev S1024x16 : Shape := ⟨2, ![1024, 16]⟩

abbrev nBuf : Space → Nat
  | .hbm => 12
  | .vmem => 9
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S16x64, .f32⟩
  | .hbm, ⟨7, _⟩ => ⟨S16x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S8192x64, .f32⟩
  | .local _ .vmem, ⟨0, _⟩ => ⟨S1x64, .f32⟩
  | .local _ .vmem, ⟨1, _⟩ => ⟨S16x64, .f32⟩
  | .local _ .vmem, ⟨2, _⟩ => ⟨S16x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1024x64, .f32⟩
  | .local _ .vmem, ⟨8, _⟩ => ⟨S1024x64, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S33x64 : Shape := ⟨2, ![33, 64]⟩
abbrev S64 : Shape := ⟨1, ![64]⟩
abbrev S64x64 : Shape := ⟨2, ![64, 64]⟩
abbrev S8192 : Shape := ⟨1, ![8192]⟩
abbrev S_ : Shape := ⟨0, ![]⟩
abbrev S8192x1 : Shape := ⟨2, ![8192, 1]⟩
abbrev S16 : Shape := ⟨1, ![16]⟩
abbrev S1x16 : Shape := ⟨2, ![1, 16]⟩
abbrev S8192x16 : Shape := ⟨2, ![8192, 16]⟩
abbrev S8192x33 : Shape := ⟨2, ![8192, 33]⟩
abbrev S8192x64 : Shape := ⟨2, ![8192, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S33x64, .f32⟩
  | .hbm, ⟨1, _⟩ => ⟨S64, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S16, .i32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S1x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x33, .f32⟩
  | .hbm, ⟨43, _⟩ => ⟨S8192x64, .f32⟩
  | .hbm, ⟨44, _⟩ => ⟨S1x64, .f32⟩
  | .hbm, ⟨45, _⟩ => ⟨S8192x64, .f32⟩
  | .hbm, ⟨46, _⟩ => ⟨S8192x64, .f32⟩
  | .hbm, ⟨47, _⟩ => ⟨S1x64, .f32⟩
  | .hbm, ⟨48, _⟩ => ⟨S8192x64, .f32⟩
  | .hbm, ⟨49, _⟩ => ⟨S8192x64, .f32⟩
  | .hbm, ⟨50, _⟩ => ⟨S8192x64, .f32⟩
  | .hbm, ⟨51, _⟩ => ⟨S8192x64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S1x64, .f32⟩
  | .hbm, ⟨56, _⟩ => ⟨S8192x64, .f32⟩
  | .hbm, ⟨57, _⟩ => ⟨S8192x64, .f32⟩
  | .hbm, ⟨58, _⟩ => ⟨S8192x64, .f32⟩
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Proof.Mlstm.Stage.lean ====
/- The mLSTM call's body, in stages: the memrefs and the inputs of one grid point, and what each loop leaves in the
   scratch buffers, as functions of the inputs alone. -/
module

public import proofs.«01_k».proof.Proof.Gen.KernelIdeal.Frame.Runs

@[expose] public section

set_option maxRecDepth 16384

noncomputable section

namespace Cert.KernelIdeal.Mlstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The memrefs the body is called with at one grid point: windows 2–12, scratch 13–22. -/
structure Mems where
  a2 : Memref sig .tc .vmem S1x4096x128 .f32
  h2 : a2.IsWhole
  a3 : Memref sig .tc .vmem S1x4096x128 .f32
  h3 : a3.IsWhole
  a4 : Memref sig .tc .vmem S1x4096x128 .f32
  h4 : a4.IsWhole
  a5 : Memref sig .tc .vmem S1x4096x128 .f32
  h5 : a5.IsWhole
  a6 : Memref sig .tc .vmem S1x1x8x4096 .f32
  h6 : a6.IsWhole
  a7 : Memref sig .tc .vmem S3x128 .f32
  h7 : a7.IsWhole
  a8 : Memref sig .tc .vmem S3x128 .f32
  h8 : a8.IsWhole
  a9 : Memref sig .tc .vmem S1x128 .f32
  h9 : a9.IsWhole
  a10 : Memref sig .tc .vmem S1x128 .f32
  h10 : a10.IsWhole
  a11 : Memref sig .tc .vmem S1x128 .f32
  h11 : a11.IsWhole
  a12 : Memref sig .tc .vmem S1x4096x128 .f32
  h12 : a12.IsWhole
  a13 : Memref sig .tc .vmem S32x128x128 .bf16
  h13 : a13.IsWhole
  a14 : Memref sig .tc .vmem S4096x128 .bf16
  h14 : a14.IsWhole
  a15 : Memref sig .tc .vmem S32x128x128 .f32
  h15 : a15.IsWhole
  a16 : Memref sig .tc .vmem S2x128x128 .f32
  h16 : a16.IsWhole
  a17 : Memref sig .tc .vmem S64x128x128 .f32
  h17 : a17.IsWhole
  a18 : Memref sig .tc .vmem S64x128x128 .f32
  h18 : a18.IsWhole
  a19 : Memref sig .tc .vmem S64x8x128 .f32
  h19 : a19.IsWhole
  a20 : Memref sig .tc .vmem S256x128 .f32
  h20 : a20.IsWhole
  a21 : Memref sig .tc .vmem S256x128 .f32
  h21 : a21.IsWhole
  a22 : Memref sig .tc .vmem S32x128x128 .f32
  h22 : a22.IsWhole

/-- The blocks of one grid point: the q, k, v, o columns, the gate rows, the convolutions' weights and biases, the
    norm's gain. -/
structure Ins (F : FTy → Type) where
  x0 : Vec F S1x4096x128 .f32
  x1 : Vec F S1x4096x128 .f32
  x2 : Vec F S1x4096x128 .f32
  x3 : Vec F S1x4096x128 .f32
  x4 : Vec F S1x1x8x4096 .f32
  x5 : Vec F S3x128 .f32
  x6 : Vec F S3x128 .f32
  x7 : Vec F S1x128 .f32
  x8 : Vec F S1x128 .f32
  x9 : Vec F S1x128 .f32

/-- The row number of an entry of a 128 × 128 matrix, -/
abbrev rowI : IVec S128x128 32 := iota .tc S128x128 32 [0] iota_S128x128_d0_w32
/-- its column number, -/
abbrev colI : IVec S128x128 32 := iota .tc S128x128 32 [1] iota_S128x128_d1_w32
/-- and the row number of an entry of an 8 × 128 matrix. -/
abbrev row8 : IVec S8x128 32 := iota .tc S8x128 32 [0] iota_S8x128_d0_w32

variable (c : Dev nD) (i : grid0.Coords) (M : Mems) (X : Ins F)

/-- What the convolution loop writes. -/
@[irreducible] def P1 := pb_k0_t1 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  rowI row8 (M.h2.unread X.x0) (M.h3.unread X.x1)
  (M.h4.unread X.x2) (M.h6.unread X.x4) (M.h7.unread X.x5) (M.h8.unread X.x6) (M.h9.unread X.x7) (M.h10.unread X.x8) k0_t1_loop.trips

/-- The scratch after the convolution loop: the convolved q, -/
@[irreducible] def c13 := M.a13.view.writes (Elt F) M.a13.view.junk (P1 c i M X).1
/-- k, -/
@[irreducible] def c14 := M.a14.view.writes (Elt F) M.a14.view.junk (P1 c i M X).2.1
/-- v, transposed, -/
@[irreducible] def c15 := M.a15.view.writes (Elt F) M.a15.view.junk (P1 c i M X).2.2.1
/-- the pieces of the log forget gates, -/
@[irreducible] def c20 := M.a20.view.writes (Elt F) M.a20.view.junk (P1 c i M X).2.2.2
/-- and their prefix sums, which come from them. -/
@[irreducible] def c21 := M.a21.view.writes (Elt F) M.a21.view.junk
  [⟨Rect.unit (s := S256x128) ![0, 0] S256x128.size inb_S256x128_S256x128_0_0,
    k0_pay86 (M.a20.view.readAt (Elt F) (Rect.unit (s := S256x128) ![0, 0] S256x128.size inb_S256x128_S256x128_0_0).toLoadRect (c20 c i M X))⟩]

/-- What the loop over the chunks' own parts writes. -/
@[irreducible] def P2 := pb_k0_t2 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  rowI colI row8 (M.h6.unread X.x4) (c13 c i M X)
  (c14 c i M X) (c15 c i M X) (c21 c i M X) k0_t2_loop.trips

/-- The scratch after it: each chunk's contribution to the state, -/
@[irreducible] def c17 := M.a17.view.writes (Elt F) M.a17.view.junk (P2 c i M X).1
/-- its log decays, -/
@[irreducible] def c18 := M.a18.view.writes (Elt F) M.a18.view.junk (P2 c i M X).2.1
/-- its statistics, -/
@[irreducible] def c19 := M.a19.view.writes (Elt F) M.a19.view.junk (P2 c i M X).2.2.1
/-- and the products of its keys and queries. -/
@[irreducible] def c22 := M.a22.view.writes (Elt F) M.a22.view.junk (P2 c i M X).2.2.2
/-- The state at the outset. -/
@[irreducible] def c16 := M.a16.view.writes (Elt F) M.a16.view.junk
  [⟨Rect.unit (s := S2x128x128) ![0, 0, 0] S2x128x128.size inb_S2x128x128_S2x128x128_0_0_0, k0_pay2 (F := F)⟩]

/-- What the scan over the chunks carries and writes. -/
@[irreducible] def P3 := st_k0_t3 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  row8 (c16 M) (c17 c i M X) (c19 c i M X)
  (k0_pay3 (F := F), k0_pay4 (F := F), k0_pay3 (F := F), k0_pay4 (F := F)) k0_t3_loop.trips

/-- The scratch after it: the state entering each chunk, -/
@[irreducible] def d17 := M.a17.view.writes (Elt F) (c17 c i M X) (P3 c i M X).2.2.1
/-- and the statistics with what the scan adds. -/
@[irreducible] def d19 := M.a19.view.writes (Elt F) (c19 c i M X) (P3 c i M X).2.2.2

/-- What the output loop writes. -/
@[irreducible] def P4 := pb_k0_t4 (F := F) Variants.none c none i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  (M.h5.unread X.x3) (M.h11.unread X.x9) (c13 c i M X)
  (c15 c i M X) (d17 c i M X) (c18 c i M X) (d19 c i M X) (c22 c i M X) k0_t4_loop.trips

end Cert.KernelIdeal.Mlstm
end
-- ==== Proof.Mlstm.Run1.lean ====
/- The first stage of the mLSTM body: the convolution loop and the gates' prefix sums. -/
module

public import proofs.«01_k».proof.Proof.Mlstm.Stage

@[expose] public section

set_option maxRecDepth 16384

noncomputable section

namespace Cert.KernelIdeal.Mlstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Writes that cover a whole memref leave the same contents whatever it held. -/
theorem writes_of_cover {sp : Space} {s : Shape} {e : EltTy} (a : Memref sig .tc sp s e) (h : a.IsWhole)
    (L : List (View.Piece (Elt F) s e)) (hL : ∀ y : s.Idx, ∃ p ∈ L, y ∈ p.1.set) (f g : a.view.ty.Contents (Elt F)) :
    a.view.writes (Elt F) f L = a.view.writes (Elt F) g L := by
  rw [h.eq_unread (f := a.view.writes (Elt F) f L) rfl, h.eq_unread (f := a.view.writes (Elt F) g L) rfl,
    View.read_writes_of_cover a.view f a.view g L hL]

variable (c : Dev nD) (i : grid0.Coords) (M : Mems) (X : Ins F)

theorem fill13 (f) : M.a13.view.writes (Elt F) f (P1 c i M X).1 = c13 c i M X := by
  unfold c13
  refine writes_of_cover M.a13 M.h13 _ ?_ _ _
  unfold P1
  exact View.cover_of_tiledL _ S1x128x128.size (by sl_kernel_rfl)
theorem fill14 (f) : M.a14.view.writes (Elt F) f (P1 c i M X).2.1 = c14 c i M X := by
  unfold c14
  refine writes_of_cover M.a14 M.h14 _ ?_ _ _
  unfold P1
  exact View.cover_of_tiledL _ S128x128.size (by sl_kernel_rfl)
theorem fill15 (f) : M.a15.view.writes (Elt F) f (P1 c i M X).2.2.1 = c15 c i M X := by
  unfold c15
  refine writes_of_cover M.a15 M.h15 _ ?_ _ _
  unfold P1
  exact View.cover_of_tiledL _ S1x128x128.size (by sl_kernel_rfl)
theorem fill20 (f) : M.a20.view.writes (Elt F) f (P1 c i M X).2.2.2 = c20 c i M X := by
  unfold c20
  refine writes_of_cover M.a20 M.h20 _ ?_ _ _
  unfold P1
  exact View.cover_of_tiledL _ S8x128.size (by sl_kernel_rfl)
theorem fill21 (f) : M.a21.view.writes (Elt F) f
    [⟨Rect.unit (s := S256x128) ![0, 0] S256x128.size inb_S256x128_S256x128_0_0,
      k0_pay86 (M.a20.view.readAt (Elt F) (Rect.unit (s := S256x128) ![0, 0] S256x128.size inb_S256x128_S256x128_0_0).toLoadRect (c20 c i M X))⟩]
    = c21 c i M X := by
  unfold c21
  exact writes_of_cover M.a21 M.h21 _ (View.cover_of_tiledL _ S256x128.size (by sl_kernel_rfl)) _ _

set_option maxHeartbeats 4000000 in
/-- The first part of the body: it leaves the five scratch buffers at what the inputs give. -/
theorem stage1 (E : Set ℕ) (f13 f14 f15 f20 f21) :
    (iprop((M.a2.view.loc (c : Thread nD τ) ↦[M.a2.view.set]{fullShare} (M.h2.unread X.x0)) ∗ (M.a3.view.loc (c : Thread nD τ) ↦[M.a3.view.set]{fullShare} (M.h3.unread X.x1)) ∗ (M.a4.view.loc (c : Thread nD τ) ↦[M.a4.view.set]{fullShare} (M.h4.unread X.x2)) ∗ (M.a6.view.loc (c : Thread nD τ) ↦[M.a6.view.set]{fullShare} (M.h6.unread X.x4)) ∗ (M.a7.view.loc (c : Thread nD τ) ↦[M.a7.view.set]{fullShare} (M.h7.unread X.x5)) ∗ (M.a8.view.loc (c : Thread nD τ) ↦[M.a8.view.set]{fullShare} (M.h8.unread X.x6)) ∗ (M.a9.view.loc (c : Thread nD τ) ↦[M.a9.view.set]{fullShare} (M.h9.unread X.x7)) ∗ (M.a10.view.loc (c : Thread nD τ) ↦[M.a10.view.set]{fullShare} (M.h10.unread X.x8)) ∗ (M.a13.view.loc (c : Thread nD τ) ↦[M.a13.view.set]{fullShare} f13) ∗ (M.a14.view.loc (c : Thread nD τ) ↦[M.a14.view.set]{fullShare} f14) ∗ (M.a15.view.loc (c : Thread nD τ) ↦[M.a15.view.set]{fullShare} f15) ∗ (M.a20.view.loc (c : Thread nD τ) ↦[M.a20.view.set]{fullShare} f20) ∗ (M.a21.view.loc (c : Thread nD τ) ↦[M.a21.view.set]{fullShare} f21)) : sProp 𝕄)
      ⊢ wp frame (wpE (defs₀ (F := F)) Variants.none (c : Thread nD τ) none) E (k0_part15 i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 )
        (fun r => iprop(⌜r = ⟨rowI, colI, row8⟩⌝ ∗ (M.a2.view.loc (c : Thread nD τ) ↦[M.a2.view.set]{fullShare} (M.h2.unread X.x0)) ∗ (M.a3.view.loc (c : Thread nD τ) ↦[M.a3.view.set]{fullShare} (M.h3.unread X.x1)) ∗ (M.a4.view.loc (c : Thread nD τ) ↦[M.a4.view.set]{fullShare} (M.h4.unread X.x2)) ∗ (M.a6.view.loc (c : Thread nD τ) ↦[M.a6.view.set]{fullShare} (M.h6.unread X.x4)) ∗ (M.a7.view.loc (c : Thread nD τ) ↦[M.a7.view.set]{fullShare} (M.h7.unread X.x5)) ∗ (M.a8.view.loc (c : Thread nD τ) ↦[M.a8.view.set]{fullShare} (M.h8.unread X.x6)) ∗ (M.a9.view.loc (c : Thread nD τ) ↦[M.a9.view.set]{fullShare} (M.h9.unread X.x7)) ∗ (M.a10.view.loc (c : Thread nD τ) ↦[M.a10.view.set]{fullShare} (M.h10.unread X.x8)) ∗ (M.a13.view.loc (c : Thread nD τ) ↦[M.a13.view.set]{fullShare} (c13 c i M X)) ∗ (M.a14.view.loc (c : Thread nD τ) ↦[M.a14.view.set]{fullShare} (c14 c i M X)) ∗ (M.a15.view.loc (c : Thread nD τ) ↦[M.a15.view.set]{fullShare} (c15 c i M X)) ∗ (M.a20.view.loc (c : Thread nD τ) ↦[M.a20.view.set]{fullShare} (c20 c i M X)) ∗ (M.a21.view.loc (c : Thread nD τ) ↦[M.a21.view.set]{fullShare} (c21 c i M X)))) := by
  rw [← fill21 c i M X f21, ← fill20 c i M X f20, ← fill13 c i M X f13, ← fill14 c i M X f14, ← fill15 c i M X f15]
  unfold P1
  simp only [k0_part15_eq_skeleton]
  unfold k0_part15_skel
  iintro ⟨H2, H3, H4, H6, H7, H8, H9, H10, H13, H14, H15, H20, H21⟩
  sl_exec
  sl_step
  sl_close

end Cert.KernelIdeal.Mlstm
end
-- ==== Proof.Mlstm.Run2.lean ====
/- The other stages of the mLSTM body: the chunks' own parts, the scan over the chunks, the outputs. -/
module

public import proofs.«01_k».proof.Proof.Mlstm.Run1

@[expose] public section

set_option maxRecDepth 16384

noncomputable section

namespace Cert.KernelIdeal.Mlstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (M : Mems) (X : Ins F)

theorem fill17 (f) : M.a17.view.writes (Elt F) f (P2 c i M X).1 = c17 c i M X := by
  unfold c17
  refine writes_of_cover M.a17 M.h17 _ ?_ _ _
  unfold P2
  exact View.cover_of_tiledL _ S1x128x128.size (by sl_kernel_rfl)
theorem fill18 (f) : M.a18.view.writes (Elt F) f (P2 c i M X).2.1 = c18 c i M X := by
  unfold c18
  refine writes_of_cover M.a18 M.h18 _ ?_ _ _
  unfold P2
  exact View.cover_of_tiledL _ S1x128x128.size (by sl_kernel_rfl)
theorem fill19 (f) : M.a19.view.writes (Elt F) f (P2 c i M X).2.2.1 = c19 c i M X := by
  unfold c19
  refine writes_of_cover M.a19 M.h19 _ ?_ _ _
  unfold P2
  exact View.cover_of_tiledL _ S1x8x128.size (by sl_kernel_rfl)
theorem fill22 (f) : M.a22.view.writes (Elt F) f (P2 c i M X).2.2.2 = c22 c i M X := by
  unfold c22
  refine writes_of_cover M.a22 M.h22 _ ?_ _ _
  unfold P2
  exact View.cover_of_tiledL _ S1x128x128.size (by sl_kernel_rfl)
theorem fill16 (f) : M.a16.view.writes (Elt F) f
    [⟨Rect.unit (s := S2x128x128) ![0, 0, 0] S2x128x128.size inb_S2x128x128_S2x128x128_0_0_0, k0_pay2 (F := F)⟩]
    = c16 M := by
  unfold c16
  exact writes_of_cover M.a16 M.h16 _ (View.cover_of_tiledL _ S2x128x128.size (by sl_kernel_rfl)) _ _

set_option maxHeartbeats 4000000 in
/-- The loop over the chunks' own parts leaves its four scratch buffers at what the inputs give. -/
theorem stage2 (E : Set ℕ) (f17 f18 f19 f22) :
    (iprop((M.a6.view.loc (c : Thread nD τ) ↦[M.a6.view.set]{fullShare} (M.h6.unread X.x4)) ∗ (M.a13.view.loc (c : Thread nD τ) ↦[M.a13.view.set]{fullShare} (c13 c i M X)) ∗ (M.a14.view.loc (c : Thread nD τ) ↦[M.a14.view.set]{fullShare} (c14 c i M X)) ∗ (M.a15.view.loc (c : Thread nD τ) ↦[M.a15.view.set]{fullShare} (c15 c i M X)) ∗ (M.a21.view.loc (c : Thread nD τ) ↦[M.a21.view.set]{fullShare} (c21 c i M X)) ∗ (M.a17.view.loc (c : Thread nD τ) ↦[M.a17.view.set]{fullShare} f17) ∗ (M.a18.view.loc (c : Thread nD τ) ↦[M.a18.view.set]{fullShare} f18) ∗ (M.a19.view.loc (c : Thread nD τ) ↦[M.a19.view.set]{fullShare} f19) ∗ (M.a22.view.loc (c : Thread nD τ) ↦[M.a22.view.set]{fullShare} f22)) : sProp 𝕄)
      ⊢ wp frame (wpE (defs₀ (F := F)) Variants.none (c : Thread nD τ) none) E
        (Scf.Loop.for k0_t2_loop k0_t2_ok ⟨⟩ (k0_t2_body i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  rowI colI row8) >>= fun _ => pure PUnit.unit)
        (fun _ => iprop((M.a6.view.loc (c : Thread nD τ) ↦[M.a6.view.set]{fullShare} (M.h6.unread X.x4)) ∗ (M.a13.view.loc (c : Thread nD τ) ↦[M.a13.view.set]{fullShare} (c13 c i M X)) ∗ (M.a14.view.loc (c : Thread nD τ) ↦[M.a14.view.set]{fullShare} (c14 c i M X)) ∗ (M.a15.view.loc (c : Thread nD τ) ↦[M.a15.view.set]{fullShare} (c15 c i M X)) ∗ (M.a21.view.loc (c : Thread nD τ) ↦[M.a21.view.set]{fullShare} (c21 c i M X)) ∗ (M.a17.view.loc (c : Thread nD τ) ↦[M.a17.view.set]{fullShare} (c17 c i M X)) ∗ (M.a18.view.loc (c : Thread nD τ) ↦[M.a18.view.set]{fullShare} (c18 c i M X)) ∗ (M.a19.view.loc (c : Thread nD τ) ↦[M.a19.view.set]{fullShare} (c19 c i M X)) ∗ (M.a22.view.loc (c : Thread nD τ) ↦[M.a22.view.set]{fullShare} (c22 c i M X)))) := by
  rw [← fill17 c i M X f17, ← fill18 c i M X f18, ← fill19 c i M X f19, ← fill22 c i M X f22]
  unfold P2
  iintro ⟨H6, H13, H14, H15, H21, H17, H18, H19, H22⟩
  sl_exec
  sl_step
  sl_close

set_option maxHeartbeats 4000000 in
/-- The scan over the chunks and the outputs. -/
theorem stage3 (E : Set ℕ) (f12) :
    (iprop((M.a5.view.loc (c : Thread nD τ) ↦[M.a5.view.set]{fullShare} (M.h5.unread X.x3)) ∗ (M.a11.view.loc (c : Thread nD τ) ↦[M.a11.view.set]{fullShare} (M.h11.unread X.x9)) ∗ (M.a13.view.loc (c : Thread nD τ) ↦[M.a13.view.set]{fullShare} (c13 c i M X)) ∗ (M.a15.view.loc (c : Thread nD τ) ↦[M.a15.view.set]{fullShare} (c15 c i M X)) ∗ (M.a18.view.loc (c : Thread nD τ) ↦[M.a18.view.set]{fullShare} (c18 c i M X)) ∗ (M.a22.view.loc (c : Thread nD τ) ↦[M.a22.view.set]{fullShare} (c22 c i M X)) ∗ (M.a16.view.loc (c : Thread nD τ) ↦[M.a16.view.set]{fullShare} (c16 M)) ∗ (M.a17.view.loc (c : Thread nD τ) ↦[M.a17.view.set]{fullShare} (c17 c i M X)) ∗ (M.a19.view.loc (c : Thread nD τ) ↦[M.a19.view.set]{fullShare} (c19 c i M X)) ∗ (M.a12.view.loc (c : Thread nD τ) ↦[M.a12.view.set]{fullShare} f12)) : sProp 𝕄)
      ⊢ wp frame (wpE (defs₀ (F := F)) Variants.none (c : Thread nD τ) none) E
        (Scf.Loop.for k0_t3_loop k0_t3_ok (k0_pay3 (F := F), k0_pay4 (F := F), k0_pay3 (F := F), k0_pay4 (F := F)) (k0_t3_body i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22  row8) >>= fun _ => Scf.Loop.for k0_t4_loop k0_t4_ok ⟨⟩ (k0_t4_body i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 ) >>= fun _ => pure PUnit.unit)
        (fun _ => iprop((M.a5.view.loc (c : Thread nD τ) ↦[M.a5.view.set]{fullShare} (M.h5.unread X.x3)) ∗ (M.a11.view.loc (c : Thread nD τ) ↦[M.a11.view.set]{fullShare} (M.h11.unread X.x9)) ∗ (M.a13.view.loc (c : Thread nD τ) ↦[M.a13.view.set]{fullShare} (c13 c i M X)) ∗ (M.a15.view.loc (c : Thread nD τ) ↦[M.a15.view.set]{fullShare} (c15 c i M X)) ∗ (M.a18.view.loc (c : Thread nD τ) ↦[M.a18.view.set]{fullShare} (c18 c i M X)) ∗ (M.a22.view.loc (c : Thread nD τ) ↦[M.a22.view.set]{fullShare} (c22 c i M X)) ∗ (∃ f, (M.a16.view.loc (c : Thread nD τ) ↦[M.a16.view.set]{fullShare} f)) ∗ (M.a17.view.loc (c : Thread nD τ) ↦[M.a17.view.set]{fullShare} (d17 c i M X)) ∗ (M.a19.view.loc (c : Thread nD τ) ↦[M.a19.view.set]{fullShare} (d19 c i M X))
          ∗ (M.a12.view.loc (c : Thread nD τ) ↦[M.a12.view.set]{fullShare} (M.a12.view.writes (Elt F) f12 (P4 c i M X))))) := by
  have e17 : M.a17.view.writes (Elt F) (c17 c i M X) (P3 c i M X).2.2.1 = d17 c i M X := by unfold d17; rfl
  have e19 : M.a19.view.writes (Elt F) (c19 c i M X) (P3 c i M X).2.2.2 = d19 c i M X := by unfold d19; rfl
  unfold P4
  rw [← e17, ← e19]
  unfold P3
  iintro ⟨H5, H11, H13, H15, H18, H22, H16, H17, H19, H12⟩
  sl_exec
  sl_step
  sl_close

end Cert.KernelIdeal.Mlstm
end
-- ==== Proof.Mlstm.Run.lean ====
/- The whole body of the mLSTM call at one grid point. -/
module

public import proofs.«01_k».proof.Proof.Mlstm.Run2

@[expose] public section

set_option maxRecDepth 16384

noncomputable section

namespace Cert.KernelIdeal.Mlstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (M : Mems) (X : Ins F)

set_option maxHeartbeats 1000000 in
/-- The scan's carried matrices start at zero. -/
theorem fill16_run (E : Set ℕ) (f16) :
    (iprop((M.a16.view.loc (c : Thread nD τ) ↦[M.a16.view.set]{fullShare} f16)) : sProp 𝕄)
      ⊢ wp frame (wpE (defs₀ (F := F)) Variants.none (c : Thread nD τ) none) E
        (Prog.lift (.load M.a16 (Rect.unit (s := S2x128x128) ![0, 0, 0] S2x128x128.size inb_S2x128x128_S2x128x128_0_0_0).toLoadRect (View.loadsAt_vmem h_S2x128x128)) >>= fun _ =>
          Prog.lift (.store M.a16 (Rect.unit (s := S2x128x128) ![0, 0, 0] S2x128x128.size inb_S2x128x128_S2x128x128_0_0_0) (k0_pay2 (F := F)) Finset.univ (View.stores_vmem_bits_univ h_S2x128x128 rfl) (.inl rfl)) >>= fun _ => pure PUnit.unit)
        (fun _ => iprop((M.a16.view.loc (c : Thread nD τ) ↦[M.a16.view.set]{fullShare} (c16 M)))) := by
  rw [← fill16 M f16]
  iintro H16
  sl_exec
  sl_step
  sl_close

/-- The same in front of what follows it. -/
theorem stage16 (E : Set ℕ) (f16) (kk : PUnit → Prog (TpuEff nD τ sig (Elt F) Λ₀ .tc) PUnit) (Q : PUnit → sProp 𝕄) :
    (iprop((M.a16.view.loc (c : Thread nD τ) ↦[M.a16.view.set]{fullShare} f16)
        ∗ ((M.a16.view.loc (c : Thread nD τ) ↦[M.a16.view.set]{fullShare} (c16 M))
          -∗ wp frame (wpE (defs₀ (F := F)) Variants.none (c : Thread nD τ) none) E (kk PUnit.unit) Q)) : sProp 𝕄)
      ⊢ wp frame (wpE (defs₀ (F := F)) Variants.none (c : Thread nD τ) none) E
        (Prog.lift (.load M.a16 (Rect.unit (s := S2x128x128) ![0, 0, 0] S2x128x128.size inb_S2x128x128_S2x128x128_0_0_0).toLoadRect (View.loadsAt_vmem h_S2x128x128)) >>= fun _ =>
          Prog.lift (.store M.a16 (Rect.unit (s := S2x128x128) ![0, 0, 0] S2x128x128.size inb_S2x128x128_S2x128x128_0_0_0) (k0_pay2 (F := F)) Finset.univ (View.stores_vmem_bits_univ h_S2x128x128 rfl) (.inl rfl)) >>= kk) Q := by
  have h := fill16_run c M E f16
  simp only [bind_pure_unit] at h
  rw [← bind_assoc, wp_bind]
  iintro ⟨H16, Hk⟩
  iapply (wp_wand_r Idealize.ShloMosaic.frame (wpE (defs₀ (F := F)) Variants.none (c : Thread nD τ) none) E)
  isplitl [H16]
  · iapply h
    iexact H16
  iintro %r H16
  iapply Hk
  iexact H16

set_option maxHeartbeats 8000000 in
/-- The body on whole memrefs, the inputs at their blocks and everything else at anything, leaves the inputs as they
    were and the output's block with the output loop's pieces written. -/
theorem run (E : Set ℕ) (K : PUnit → sProp 𝕄) :
        iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ owns (c : Thread nD τ) M.a9 fullShare X.x7 ∗ owns (c : Thread nD τ) M.a10 fullShare X.x8 ∗ owns (c : Thread nD τ) M.a11 fullShare X.x9 ∗ (∃ d, owns (c : Thread nD τ) M.a12 fullShare d) ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d) ∗ (∃ d, owns (c : Thread nD τ) M.a19 fullShare d) ∗ (∃ d, owns (c : Thread nD τ) M.a20 fullShare d) ∗ (∃ d, owns (c : Thread nD τ) M.a21 fullShare d) ∗ (∃ d, owns (c : Thread nD τ) M.a22 fullShare d)
            ∗ (iprop(owns (c : Thread nD τ) M.a2 fullShare X.x0 ∗ owns (c : Thread nD τ) M.a3 fullShare X.x1 ∗ owns (c : Thread nD τ) M.a4 fullShare X.x2 ∗ owns (c : Thread nD τ) M.a5 fullShare X.x3 ∗ owns (c : Thread nD τ) M.a6 fullShare X.x4 ∗ owns (c : Thread nD τ) M.a7 fullShare X.x5 ∗ owns (c : Thread nD τ) M.a8 fullShare X.x6 ∗ owns (c : Thread nD τ) M.a9 fullShare X.x7 ∗ owns (c : Thread nD τ) M.a10 fullShare X.x8 ∗ owns (c : Thread nD τ) M.a11 fullShare X.x9 ∗ (∃ f, M.a12.view.loc (c : Thread nD τ) ↦[M.a12.view.set]{fullShare} M.a12.view.writes (Elt F) f (P4 c i M X)) ∗ (∃ d, owns (c : Thread nD τ) M.a13 fullShare d) ∗ (∃ d, owns (c : Thread nD τ) M.a14 fullShare d) ∗ (∃ d, owns (c : Thread nD τ) M.a15 fullShare d) ∗ (∃ d, owns (c : Thread nD τ) M.a16 fullShare d) ∗ (∃ d, owns (c : Thread nD τ) M.a17 fullShare d) ∗ (∃ d, owns (c : Thread nD τ) M.a18 fullShare d) ∗ (∃ d, owns (c : Thread nD τ) M.a19 fullShare d) ∗ (∃ d, owns (c : Thread nD τ) M.a20 fullShare d) ∗ (∃ d, owns (c : Thread nD τ) M.a21 fullShare d) ∗ (∃ d, owns (c : Thread nD τ) M.a22 fullShare d)) -∗ K ⟨⟩))
      ⊢ wp frame (wpE (defs₀ (F := F)) Variants.none (c : Thread nD τ) none) E (cc0_mlstm i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19 M.a20 M.h20 M.a21 M.h21 M.a22 M.h22 ) K := by
  simp only [cc0_mlstm_eq_skeleton]; unfold cc0_mlstm_skel
  unfold owns
  iintro ⟨⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  obtain rfl := M.h2.eq_unread e2; obtain rfl := M.h3.eq_unread e3; obtain rfl := M.h4.eq_unread e4; obtain rfl := M.h5.eq_unread e5; obtain rfl := M.h6.eq_unread e6; obtain rfl := M.h7.eq_unread e7; obtain rfl := M.h8.eq_unread e8; obtain rfl := M.h9.eq_unread e9; obtain rfl := M.h10.eq_unread e10; obtain rfl := M.h11.eq_unread e11
  rw [wp_bind]
  iapply (wp_wand_r Idealize.ShloMosaic.frame (wpE (defs₀ (F := F)) Variants.none (c : Thread nD τ) none) E)
  isplitl [H2 H3 H4 H6 H7 H8 H9 H10 H13 H14 H15 H20 H21]
  · iapply (stage1 c i M X E f13 f14 f15 f20 f21)
    isplitl [H2]; · iexact H2
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H13]; · iexact H13
    isplitl [H14]; · iexact H14
    isplitl [H15]; · iexact H15
    isplitl [H20]; · iexact H20
    iexact H21
  iintro %r ⟨%hr, H2, H3, H4, H6, H7, H8, H9, H10, H13, H14, H15, H20, H21⟩
  subst hr
  dsimp only
  rw [wp_bind]
  iapply (wp_wand_r Idealize.ShloMosaic.frame (wpE (defs₀ (F := F)) Variants.none (c : Thread nD τ) none) E)
  isplitl [H6 H13 H14 H15 H21 H17 H18 H19 H22]
  · rw [← bind_pure_unit (x := Scf.Loop.for k0_t2_loop k0_t2_ok _ _)]
    iapply (stage2 c i M X E f17 f18 f19 f22)
    isplitl [H6]; · iexact H6
    isplitl [H13]; · iexact H13
    isplitl [H14]; · iexact H14
    isplitl [H15]; · iexact H15
    isplitl [H21]; · iexact H21
    isplitl [H17]; · iexact H17
    isplitl [H18]; · iexact H18
    isplitl [H19]; · iexact H19
    iexact H22
  iintro %r2 ⟨H6, H13, H14, H15, H21, H17, H18, H19, H22⟩
  iapply (stage16 c M E f16 _ K)
  isplitl [H16]; · iexact H16
  iintro H16
  iapply (wp_wand_r Idealize.ShloMosaic.frame (wpE (defs₀ (F := F)) Variants.none (c : Thread nD τ) none) E)
  isplitl [H5 H11 H13 H15 H18 H22 H16 H17 H19 H12]
  · iapply (stage3 c i M X E f12)
    isplitl [H5]; · iexact H5
    isplitl [H11]; · iexact H11
    isplitl [H13]; · iexact H13
    isplitl [H15]; · iexact H15
    isplitl [H18]; · iexact H18
    isplitl [H22]; · iexact H22
    isplitl [H16]; · iexact H16
    isplitl [H17]; · iexact H17
    isplitl [H19]; · iexact H19
    iexact H12
  iintro %r3 ⟨H5, H11, H13, H15, H18, H22, ⟨%g16, H16⟩, H17, H19, H12⟩
  iapply Hk
  isplitl [H2]
  · iexists _; isplitr; swap
    · iexact H2
    · ipureintro; exact M.h2.read_unread _
  isplitl [H3]
  · iexists _; isplitr; swap
    · iexact H3
    · ipureintro; exact M.h3.read_unread _
  isplitl [H4]
  · iexists _; isplitr; swap
    · iexact H4
    · ipureintro; exact M.h4.read_unread _
  isplitl [H5]
  · iexists _; isplitr; swap
    · iexact H5
    · ipureintro; exact M.h5.read_unread _
  isplitl [H6]
  · iexists _; isplitr; swap
    · iexact H6
    · ipureintro; exact M.h6.read_unread _
  isplitl [H7]
  · iexists _; isplitr; swap
    · iexact H7
    · ipureintro; exact M.h7.read_unread _
  isplitl [H8]
  · iexists _; isplitr; swap
    · iexact H8
    · ipureintro; exact M.h8.read_unread _
  isplitl [H9]
  · iexists _; isplitr; swap
    · iexact H9
    · ipureintro; exact M.h9.read_unread _
  isplitl [H10]
  · iexists _; isplitr; swap
    · iexact H10
    · ipureintro; exact M.h10.read_unread _
  isplitl [H11]
  · iexists _; isplitr; swap
    · iexact H11
    · ipureintro; exact M.h11.read_unread _
  isplitl [H12]; · iexists _; iexact H12
  isplitl [H13]
  · iexists _, _; isplitr; swap
    · iexact H13
    · ipureintro; rfl
  isplitl [H14]
  · iexists _, _; isplitr; swap
    · iexact H14
    · ipureintro; rfl
  isplitl [H15]
  · iexists _, _; isplitr; swap
    · iexact H15
    · ipureintro; rfl
  isplitl [H16]
  · iexists _, _; isplitr; swap
    · iexact H16
    · ipureintro; rfl
  isplitl [H17]
  · iexists _, _; isplitr; swap
    · iexact H17
    · ipureintro; rfl
  isplitl [H18]
  · iexists _, _; isplitr; swap
    · iexact H18
    · ipureintro; rfl
  isplitl [H19]
  · iexists _, _; isplitr; swap
    · iexact H19
    · ipureintro; rfl
  isplitl [H20]
  · iexists _, _; isplitr; swap
    · iexact H20
    · ipureintro; rfl
  isplitl [H21]
  · iexists _, _; isplitr; swap
    · iexact H21
    · ipureintro; rfl
  iexists _, _; isplitr; swap
  · iexact H22
  · ipureintro; rfl

end Cert.KernelIdeal.Mlstm
end
-- ==== Proof.Mlstm.Frame.lean ====
/- The frame of the mLSTM call: the run of Run.lean at every grid point, the pipeline's proof data, the launch. -/
module

public import proofs.«01_k».proof.Proof.Mlstm.Run
public import Idealize.ShloMosaic.Lib.Claim

@[expose] public section

set_option maxRecDepth 16384

noncomputable section

namespace Cert.KernelIdeal.Mlstm

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves at a grid point -/

/-- The body's memrefs at point `t`: the windows' staging buffers and the scratch buffers. -/
abbrev memsAt (t : Fin cfg0.N) : Mems where
  a2 := ms0_0 t
  h2 := hs0_0 t
  a3 := ms0_1 t
  h3 := hs0_1 t
  a4 := ms0_2 t
  h4 := hs0_2 t
  a5 := ms0_3 t
  h5 := hs0_3 t
  a6 := ms0_4 t
  h6 := hs0_4 t
  a7 := ms0_5 t
  h7 := hs0_5 t
  a8 := ms0_6 t
  h8 := hs0_6 t
  a9 := ms0_7 t
  h9 := hs0_7 t
  a10 := ms0_8 t
  h10 := hs0_8 t
  a11 := ms0_9 t
  h11 := hs0_9 t
  a12 := ms0_10 t
  h12 := hs0_10 t
  a13 := scM0_0
  h13 := Memref.isWhole_whole _
  a14 := scM0_1
  h14 := Memref.isWhole_whole _
  a15 := scM0_2
  h15 := Memref.isWhole_whole _
  a16 := scM0_3
  h16 := Memref.isWhole_whole _
  a17 := scM0_4
  h17 := Memref.isWhole_whole _
  a18 := scM0_5
  h18 := Memref.isWhole_whole _
  a19 := scM0_6
  h19 := Memref.isWhole_whole _
  a20 := scM0_7
  h20 := Memref.isWhole_whole _
  a21 := scM0_8
  h21 := Memref.isWhole_whole _
  a22 := scM0_9
  h22 := Memref.isWhole_whole _

/-- The inputs' blocks at point `t`. -/
abbrev insAt (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t

/-- The output loop's pieces cover the output's block. -/
theorem P4_cover (c : Dev nD) (i : grid0.Coords) (M : Mems) (X : Ins F) (y : S1x4096x128.Idx) :
    ∃ pc ∈ P4 c i M X, y ∈ pc.1.set := by
  revert y
  unfold P4
  exact View.cover_of_tiledL _ S1x128x128.size (by sl_kernel_rfl)

/-- What the body leaves in the output's staging buffer at point `t`: the pieces read back. -/
def outsAt0 (c : Dev nD) (t : Fin cfg0.N) : Vec F S1x4096x128 .f32 :=
  VO0_10.read (Elt F) (VO0_10.writes (Elt F) VO0_10.junk (P4 c (grid0.coords t) (memsAt t) (insAt m c t)))

/-! ## The pipeline's proof data -/

/-- The proof data of the pipeline on core `c`: each input's buffer holds its block after every point, the output's what
    the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t)
  Φ _ := Pipeline.ΦA spec0 c
  q w := Pipeline.shareOf spec0 w
  owed _ := 0

/-- Its arrays are the contents the launch is entered with. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- The body at any point: the inputs hold their blocks, so the run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold outsAt0
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) (memsAt t) (insAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, ⟨%e10, H10⟩, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold owns; iexists _; isplitr
  swap; · iexact H10
  ipureintro; exact View.read_writes_of_cover _ _ _ _ _ (P4_cover c _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's triple in the pipeline's own words. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: it ends with the pipeline's arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Mlstm

end
-- ==== Proof.Ffn.Frame.lean ====
/- The frame of the expert feed-forward call as it is compiled.  Its program and the program read at the ideal
   instance are one text under two names, so the facts and the frame proved of the second are those of the first. -/
module

public import proofs.«01_k».proof.Defs
public import proofs.«01_k».proof.Proof.Gen.Kernel2Ideal.Frame

@[expose] public section

noncomputable section

namespace Cert.Ffn

open Idealize.ShloMosaic Idealize.SL.Sem

/-- The side conditions of the compiled program are those of the ideal one. -/
theorem facts₀ : Cert.Kernel2.Facts₀ := by
  have h : Cert.Kernel2Ideal.Facts₀ := inferInstance
  cases h
  constructor <;> assumption

instance facts : Cert.Kernel2.Facts := { toFacts₀ := facts₀ }

/-- The two programs' bodies are one. -/
theorem defs₀_eq : @Cert.Kernel2.defs₀ Bits _ _ = @Cert.Kernel2Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))

/-- The two launches are one. -/
theorem defs_eq : @Cert.Kernel2.defs Bits _ _ = @Cert.Kernel2Ideal.defs Bits _ _ :=
  congrArg (Pipeline.defs Cert.Kernel2Ideal.pcfgs) defs₀_eq

/-- The call leaves its arguments as they were and its semaphores at zero. -/
theorem frame : Cert.quiescent_Kernel2 := fun m ρ _ => by
  have h := Cert.Kernel2Ideal.Gen.frame (F := Bits) m ρ
  rw [← defs_eq] at h
  exact h

end Cert.Ffn

end
-- ==== Proof.Ffn.Payload.lean ====
/-
  What one grid step of the expert feed-forward kernel computes, payload by payload, read at an index.
-/
module

public import proofs.«01_k».proof.Proof.Gen.Kernel2Ideal.Skeleton
public import Idealize.ShloMosaic.Lib.Pointwise

@[expose] public section
noncomputable section

namespace Cert.Ffn
open Idealize.ShloMosaic Idealize.ShloMosaic.TcCoe
open Cert.Kernel2Ideal Cert.Kernel2Ideal.Gen

/-- The gated activation `p · σ(p) · q` of one hidden unit. -/
def act (p q : EReal) : EReal := p * Ideal.div 1 (1 + Ideal.exp (0 - p)) * q

/-- One hidden unit: the row of tokens against one column of the gate and of the up projection. -/
def hid {n : ℕ} (x : Fin 1024 → EReal) (g u : Fin 1024 → Fin n → EReal) (f : Fin n) : EReal :=
  act (∑ k, x k * g k f) (∑ k, x k * u k f)

/-- The hidden units of one tile against one column of the down projection. -/
def tile {n : ℕ} (x : Fin 1024 → EReal) (g u : Fin 1024 → Fin n → EReal) (d : Fin n → EReal) : EReal :=
  ∑ f, hid x g u f * d f

variable (x : Vec Ideal S1x1x512x1024 .bf16) (g u g' u' : Vec Ideal S1x1024x512 .bf16)
  (d d' : Vec Ideal S512x1024 .bf16) (a : FVec Ideal S512x1024 .f32) (m : Vec Ideal S1x1x16x512 .f32)
  (r : Fin 512) (c : Fin 1024)

/-- The first tile's sum. -/
theorem pay6_apply : k0_pay6 x g u d (ix2 r c)
    = tile (fun k => x (ix4 0 0 r k)) (fun k f => g (ix3 0 k f)) (fun k f => u (ix3 0 k f)) (fun f => d (ix2 f c)) := by
  pointwise [k0_pay6, k0_pay1]
  rfl

/-- The second and the third tile are added to the first. -/
theorem pay8_apply : k0_pay8 (k0_pay1 x) a (k0_pay7 x g) u d g' u' d' (ix2 r c)
    = a (ix2 r c)
      + tile (fun k => x (ix4 0 0 r k)) (fun k f => g (ix3 0 k f)) (fun k f => u (ix3 0 k f)) (fun f => d (ix2 f c))
      + tile (fun k => x (ix4 0 0 r k)) (fun k f => g' (ix3 0 k f)) (fun k f => u' (ix3 0 k f))
          (fun f => d' (ix2 f c)) := by
  pointwise [k0_pay8, k0_pay7, k0_pay1]
  rfl

/-- The diagonal mask's row sum picks the row's own entry. -/
theorem diag_sum (h : Fin 512 → EReal) :
    ∑ t : Fin 512, Scalar.select (IntOp.cmpi CmpIPredicate.eq (BitVec.ofNat 32 r.val) (BitVec.ofNat 32 t.val)) (h t) 0
      = h r := by
  rw [Finset.sum_eq_single r]
  · simp [Scalar.select, IntOp.cmpi]
  · intro t _ ht
    have : ¬ (BitVec.ofNat 32 r.val = BitVec.ofNat 32 t.val) := by
      intro h; apply ht; apply Fin.ext
      have := congrArg BitVec.toNat h
      simp only [BitVec.toNat_ofNat] at this
      omega
    have h2 : (BitVec.ofNat 32 r.val == BitVec.ofNat 32 t.val) = false := beq_eq_false_iff_ne.mpr this
    simp only [Scalar.select, IntOp.cmpi, h2]
    rfl
  · simp

/-- The last tile is added and the row is scaled by its gate, the sum of the first three rows of the gate array. -/
theorem pay10_apply : k0_pay10 (k0_pay1 x) a (k0_pay9 g) u d m (ix4 0 0 r c)
    = (a (ix2 r c)
      + tile (fun k => x (ix4 0 0 r k)) (fun k f => g (ix3 0 k f)) (fun k f => u (ix3 0 k f)) (fun f => d (ix2 f c)))
      * (m (ix4 0 0 0 r) + m (ix4 0 0 1 r) + m (ix4 0 0 2 r)) := by
  pointwise [k0_pay10, k0_pay1, k0_pay9]
  rw [diag_sum]
  rfl

/-- The down projection's rows are cast and kept. -/
theorem pay2_apply (v : Vec Ideal S1x512x1024 .f32) : k0_pay2 v (ix2 r c) = v (ix3 0 r c) := by
  pointwise [k0_pay2]
theorem pay3_apply (v : Vec Ideal S1x512x1024 .f32) : k0_pay3 v (ix2 r c) = v (ix3 0 r c) := by
  pointwise [k0_pay3]
theorem pay4_apply (v : Vec Ideal S1x512x1024 .f32) : k0_pay4 v (ix2 r c) = v (ix3 0 r c) := by
  pointwise [k0_pay4]
theorem pay5_apply (v : Vec Ideal S1x512x1024 .f32) : k0_pay5 v (ix2 r c) = v (ix3 0 r c) := by
  pointwise [k0_pay5]

/-- Four tiles of 512 make the 2048 hidden units. -/
theorem tiles {x : Fin 1024 → EReal} (g u : Fin 1024 → Fin 2048 → EReal) (d : Fin 2048 → EReal)
    (T : (j : Fin 4) → Fin 512 → Fin 2048) (hT : ∀ j f, (T j f).val = 512 * j.val + f.val) :
    tile x (fun k f => g k (T 0 f)) (fun k f => u k (T 0 f)) (fun f => d (T 0 f))
      + tile x (fun k f => g k (T 1 f)) (fun k f => u k (T 1 f)) (fun f => d (T 1 f))
      + tile x (fun k f => g k (T 2 f)) (fun k f => u k (T 2 f)) (fun f => d (T 2 f))
      + tile x (fun k f => g k (T 3 f)) (fun k f => u k (T 3 f)) (fun f => d (T 3 f))
      = tile x g u d := by
  have e : tile x g u d = ∑ j : Fin 4, ∑ f : Fin 512, hid x g u (T j f) * d (T j f) := by
    unfold tile
    rw [Fin.sum_univ_tiles 4 512 rfl]
    refine Finset.sum_congr rfl fun j _ => Finset.sum_congr rfl fun f _ => ?_
    have : (⟨j.val * 512 + f.val, by omega⟩ : Fin 2048) = T j f := Fin.ext (by rw [hT]; simp only []; omega)
    rw [this]
  rw [e, Fin.sum_univ_four]
  rfl

end Cert.Ffn
end
-- ==== Proof.Ffn.Block.lean ====
/-
  What one grid step leaves in the output block and in the scratch that keeps the cast down projection.
-/
module

public import proofs.«01_k».proof.Proof.Ffn.Payload
public import proofs.«01_k».proof.Proof.Gen.Kernel2Ideal.Value
public import Idealize.ShloMosaic.Lib.Tactic

@[expose] public section
noncomputable section

namespace Cert.Ffn
open Idealize.ShloMosaic Idealize.ShloMosaic.TcCoe Idealize.SL.Sem
open Cert.Kernel2Ideal Cert.Kernel2Ideal.Gen

theorem hz4 : (![0, 0, 0, 0] : Fin 4 → Nat) = fun _ => 0 := funext fun a => by fin_cases a <;> rfl

/-- The output block: every hidden unit against the down projection, scaled by the row's gate. -/
def blockOut (x : Vec Ideal S1x1x512x1024 .bf16) (m : Vec Ideal S1x1x16x512 .f32) (g u : Vec Ideal S1x1024x2048 .bf16)
    (d : Vec Ideal S2048x1024 .bf16) (r : Fin 512) (c : Fin 1024) : EReal :=
  tile (fun k => x (ix4 0 0 r k)) (fun k f => g (ix3 0 k f)) (fun k f => u (ix3 0 k f)) (fun f => d (ix2 f c))
    * (m (ix4 0 0 0 r) + m (ix4 0 0 1 r) + m (ix4 0 0 2 r))

/-- The `j`-th tile's hidden units among all. -/
def tl (j : Fin 4) (f : Fin 512) : Fin 2048 := ⟨512 * j.val + f.val, by omega⟩

/-- The cast down projection. -/
def down (x4 : Vec Ideal S1x2048x1024 .f32) : Vec Ideal S2048x1024 .bf16 := fun y => x4 (ix3 0 (y 0) (y 1))

variable (c : Dev nD) (i : grid0.Coords)
    (arg2 : Memref sig .tc .vmem S1x1x512x1024 .bf16) (harg2 : arg2.IsWhole)
    (arg3 : Memref sig .tc .vmem S1x1x16x512 .f32) (harg3 : arg3.IsWhole)
    (arg4 : Memref sig .tc .vmem S1x1024x2048 .bf16) (harg4 : arg4.IsWhole)
    (arg5 : Memref sig .tc .vmem S1x1024x2048 .bf16) (harg5 : arg5.IsWhole)
    (arg6 : Memref sig .tc .vmem S1x2048x1024 .f32) (harg6 : arg6.IsWhole)
    (arg7 : Memref sig .tc .vmem S1x1x512x1024 .bf16) (harg7 : arg7.IsWhole)
    (arg8 : Memref sig .tc .vmem S2048x1024 .bf16) (harg8 : arg8.IsWhole)
    (x0 : Vec Ideal S1x1x512x1024 .bf16) (x1 : Vec Ideal S1x1x16x512 .f32)
    (x2 : Vec Ideal S1x1024x2048 .bf16) (x3 : Vec Ideal S1x1024x2048 .bf16)
    (x4 : Vec Ideal S1x2048x1024 .f32) (xs0 : Vec Ideal S2048x1024 .bf16)

/-- A tile of a weight array, loaded through its view. -/
theorem ld_w {arg : Memref sig .tc .vmem S1x1024x2048 .bf16} (h : arg.IsWhole) (x : Vec Ideal S1x1024x2048 .bf16)
    (j : Fin 4) (off : Fin 3 → ℕ) (hoff : off = ![0, 0, 512 * j.val]) (hb) (k : Fin 1024) (f : Fin 512) :
    View.readAt (Elt Ideal) arg.view (Rect.unit (s := S1x1024x2048) off S1x1024x512.size hb).toLoadRect (h.unread x)
      (ix3 0 k f) = x (ix3 0 k (tl j f)) := by
  subst hoff
  rw [View.readAt_eq_ld, h.read_unread]
  refine congrArg x (funext fun a => ?_)
  fin_cases a <;> apply Fin.ext <;> simp [View.ld, tl, Rect.unit, LoadRect.idx, Rect.toLoadRect, ix3]

/-- A tile of the scratch, loaded through its view. -/
theorem ld_d {arg : Memref sig .tc .vmem S2048x1024 .bf16} (h : arg.IsWhole) (x : Vec Ideal S2048x1024 .bf16)
    (j : Fin 4) (off : Fin 2 → ℕ) (hoff : off = ![512 * j.val, 0]) (hb) (f : Fin 512) (k : Fin 1024) :
    View.readAt (Elt Ideal) arg.view (Rect.unit (s := S2048x1024) off S512x1024.size hb).toLoadRect (h.unread x)
      (ix2 f k) = x (ix2 (tl j f) k) := by
  subst hoff
  rw [View.readAt_eq_ld, h.read_unread]
  refine congrArg x (funext fun a => ?_)
  fin_cases a <;> apply Fin.ext <;> simp [View.ld, tl, Rect.unit, LoadRect.idx, Rect.toLoadRect, ix2]

/-- A whole load is the block. -/
theorem ld_x {arg : Memref sig .tc .vmem S1x1x512x1024 .bf16} (h : arg.IsWhole) (x : Vec Ideal S1x1x512x1024 .bf16) (hb) :
    View.readAt (Elt Ideal) arg.view (Rect.unit (s := S1x1x512x1024) ![0, 0, 0, 0] S1x1x512x1024.size hb).toLoadRect
      (h.unread x) = x := by
  rw [View.readAt_eq_ld, h.read_unread]
  exact View.ld_unit_zero hz4 _ _
theorem ld_m {arg : Memref sig .tc .vmem S1x1x16x512 .f32} (h : arg.IsWhole) (x : Vec Ideal S1x1x16x512 .f32) (hb) :
    View.readAt (Elt Ideal) arg.view (Rect.unit (s := S1x1x16x512) ![0, 0, 0, 0] S1x1x16x512.size hb).toLoadRect
      (h.unread x) = x := by
  rw [View.readAt_eq_ld, h.read_unread]
  exact View.ld_unit_zero hz4 _ _

/-- A later grid step of an expert: the scratch holds the cast down projection already. -/
theorem out_B (hc0 : ¬cond0_0 i) (r : Fin 512) (n : Fin 1024) :
    out0_B_5 (F := Ideal) c i arg2 harg2 arg3 harg3 arg4 harg4 arg5 harg5 arg6 harg6 arg7 harg7 arg8 harg8 hc0 x0 x1 x2 x3 x4 xs0
      (ix4 0 0 r n) = blockOut x0 x1 x2 x3 xs0 r n := by
  unfold out0_B_5
  rw [View.read_writes_eq_canon _ _ _ (fun y => cover0_B_5 (y := y) ..)]
  unfold kernelRun0_B
  dsimp only
  rw [View.canon_unit_zero hz4]
  sl_unfold_words
  rw [pay10_apply, pay8_apply, pay6_apply, ld_x, ld_m]
  simp only [ld_w harg4 x2 0 ![0, 0, 0] rfl, ld_w harg4 x2 1 ![0, 0, 512] rfl, ld_w harg4 x2 2 ![0, 0, 1024] rfl,
    ld_w harg4 x2 3 ![0, 0, 1536] rfl, ld_w harg5 x3 0 ![0, 0, 0] rfl, ld_w harg5 x3 1 ![0, 0, 512] rfl,
    ld_w harg5 x3 2 ![0, 0, 1024] rfl, ld_w harg5 x3 3 ![0, 0, 1536] rfl, ld_d harg8 xs0 0 ![0, 0] rfl,
    ld_d harg8 xs0 1 ![512, 0] rfl, ld_d harg8 xs0 2 ![1024, 0] rfl, ld_d harg8 xs0 3 ![1536, 0] rfl]
  exact congrArg (· * _) (tiles (fun k f => x2 (ix3 0 k f)) (fun k f => x3 (ix3 0 k f)) (fun f => xs0 (ix2 f n)) tl
    fun _ _ => rfl)

/-- A tile of the down projection, loaded through its view. -/
theorem ld_f {arg : Memref sig .tc .vmem S1x2048x1024 .f32} (h : arg.IsWhole) (x : Vec Ideal S1x2048x1024 .f32)
    (j : Fin 4) (off : Fin 3 → ℕ) (hoff : off = ![0, 512 * j.val, 0]) (hb) (f : Fin 512) (k : Fin 1024) :
    View.readAt (Elt Ideal) arg.view (Rect.unit (s := S1x2048x1024) off S1x512x1024.size hb).toLoadRect (h.unread x)
      (ix3 0 f k) = x (ix3 0 (tl j f) k) := by
  subst hoff
  rw [View.readAt_eq_ld, h.read_unread]
  refine congrArg x (funext fun a => ?_)
  fin_cases a <;> apply Fin.ext <;> simp [View.ld, tl, Rect.unit, LoadRect.idx, Rect.toLoadRect, ix3]

/-- A tile's place in the scratch. -/
theorem down_emb (j : Fin 4) (off : Fin 2 → ℕ) (hoff : off = ![512 * j.val, 0]) (hb) (f : Fin 512) (k : Fin 1024) :
    down x4 ((Rect.unit (s := S2048x1024) off S512x1024.size hb).emb (ix2 f k)) = x4 (ix3 0 (tl j f) k) := by
  subst hoff
  refine congrArg x4 (funext fun a => ?_)
  fin_cases a <;> apply Fin.ext <;> simp [tl, Rect.unit, Rect.emb, ix3, ix2]

/-- A stored tile agrees with the cast down projection. -/
theorem piece_ok (j : Fin 4) (off : Fin 2 → ℕ) (hoff : off = ![512 * j.val, 0]) (hb) (w : FVec Ideal S512x1024 .bf16)
    (hw : ∀ f k, w (ix2 f k) = x4 (ix3 0 (tl j f) k)) (x : S512x1024.Idx) :
    w x = down x4 ((Rect.unit (s := S2048x1024) off S512x1024.size hb).emb x) := by
  obtain ⟨f, k, rfl⟩ : ∃ (f : Fin 512) (k : Fin 1024), x = ix2 f k := ⟨x 0, x 1, eq_ix2 x⟩
  rw [hw, down_emb x4 j off hoff]

/-- The first grid step of an expert stores the cast down projection, tile by tile. -/
theorem pieces_A (hc0 : cond0_0 i) : ∀ p ∈ (kernelRun0_A (F := Ideal) c i arg2 harg2 arg3 harg3 arg4 harg4 arg5 harg5 arg6 harg6 arg7 harg7 arg8 harg8 hc0 x0 x1 x2 x3 x4).2.1,
    ∀ x : p.1.shape.Idx, p.2 x = down x4 (p.1.emb x) := by
  unfold kernelRun0_A
  dsimp only
  sl_unfold_words
  simp only [List.forall_mem_cons, List.not_mem_nil, false_imp_iff, implies_true, and_true]
  refine ⟨piece_ok x4 3 ![1536, 0] rfl inb_S2048x1024_S512x1024_1536_0 _ fun f k => ?_,
    piece_ok x4 2 ![1024, 0] rfl inb_S2048x1024_S512x1024_1024_0 _ fun f k => ?_,
    piece_ok x4 1 ![512, 0] rfl inb_S2048x1024_S512x1024_512_0 _ fun f k => ?_,
    piece_ok x4 0 ![0, 0] rfl inb_S2048x1024_S512x1024_0_0 _ fun f k => ?_⟩
  · exact (pay5_apply f k _).trans (ld_f harg6 x4 3 ![0, 1536, 0] rfl _ f k)
  · exact (pay4_apply f k _).trans (ld_f harg6 x4 2 ![0, 1024, 0] rfl _ f k)
  · exact (pay3_apply f k _).trans (ld_f harg6 x4 1 ![0, 512, 0] rfl _ f k)
  · exact (pay2_apply f k _).trans (ld_f harg6 x4 0 ![0, 0, 0] rfl _ f k)

/-- The scratch after it. -/
theorem sout_A (hc0 : cond0_0 i) :
    sout0_A_0 (F := Ideal) c i arg2 harg2 arg3 harg3 arg4 harg4 arg5 harg5 arg6 harg6 arg7 harg7 arg8 harg8 hc0 x0 x1 x2 x3 x4 = down x4 := by
  unfold sout0_A_0
  rw [View.read_writes_eq_canon _ _ _ (fun y => scover0_A_0 (y := y) ..)]
  funext y
  exact View.canon_apply_of_pieces _ _ (pieces_A c i arg2 harg2 arg3 harg3 arg4 harg4 arg5 harg5 arg6 harg6 arg7 harg7 arg8 harg8 x0 x1 x2 x3 x4 hc0) y (scover0_A_0 (y := y) ..)

/-- A tile of the scratch, loaded back after the stores. -/
theorem ld_c {arg : Memref sig .tc .vmem S2048x1024 .bf16} (L : List (View.Piece (Elt Ideal) S2048x1024 .bf16))
    (hL : ∀ p ∈ L, ∀ x : p.1.shape.Idx, p.2 x = down x4 (p.1.emb x)) (hc : ∀ y, ∃ p ∈ L, y ∈ p.1.set)
    (j : Fin 4) (off : Fin 2 → ℕ) (hoff : off = ![512 * j.val, 0]) (hb) (f : Fin 512) (k : Fin 1024) :
    arg.view.readCov L (Rect.unit (s := S2048x1024) off S512x1024.size hb).toLoadRect (ix2 f k)
      = down x4 (ix2 (tl j f) k) := by
  rw [View.readCov_eq_canon']
  show View.canon L _ = _
  rw [View.canon_apply_of_pieces _ L hL _ (hc _)]
  exact down_emb x4 j off hoff hb f k

/-- The first grid step of an expert. -/
theorem out_A (hc0 : cond0_0 i) (r : Fin 512) (n : Fin 1024) :
    out0_A_5 (F := Ideal) c i arg2 harg2 arg3 harg3 arg4 harg4 arg5 harg5 arg6 harg6 arg7 harg7 arg8 harg8 hc0 x0 x1 x2 x3 x4
      (ix4 0 0 r n) = blockOut x0 x1 x2 x3 (down x4) r n := by
  have hL := pieces_A c i arg2 harg2 arg3 harg3 arg4 harg4 arg5 harg5 arg6 harg6 arg7 harg7 arg8 harg8 x0 x1 x2 x3 x4 hc0
  have hC := fun y => scover0_A_0 (F := Ideal) c i arg2 harg2 arg3 harg3 arg4 harg4 arg5 harg5 arg6 harg6 arg7 harg7 arg8 harg8 hc0 x0 x1 x2 x3 x4 y
  unfold out0_A_5
  rw [View.read_writes_eq_canon _ _ _ (fun y => cover0_A_5 (y := y) ..)]
  revert hL hC
  unfold kernelRun0_A
  dsimp only
  rw [View.canon_unit_zero hz4]
  sl_unfold_words
  intro hL hC
  rw [pay10_apply, pay8_apply, pay6_apply, ld_x, ld_m]
  simp only [ld_w harg4 x2 0 ![0, 0, 0] rfl, ld_w harg4 x2 1 ![0, 0, 512] rfl, ld_w harg4 x2 2 ![0, 0, 1024] rfl,
    ld_w harg4 x2 3 ![0, 0, 1536] rfl, ld_w harg5 x3 0 ![0, 0, 0] rfl, ld_w harg5 x3 1 ![0, 0, 512] rfl,
    ld_w harg5 x3 2 ![0, 0, 1024] rfl, ld_w harg5 x3 3 ![0, 0, 1536] rfl, ld_c x4 _ hL hC 0 ![0, 0] rfl,
    ld_c x4 _ hL hC 1 ![512, 0] rfl, ld_c x4 _ hL hC 2 ![1024, 0] rfl, ld_c x4 _ hL hC 3 ![1536, 0] rfl]
  exact congrArg (· * _) (tiles (fun k f => x2 (ix3 0 k f)) (fun k f => x3 (ix3 0 k f))
    (fun f => down x4 (ix2 f n)) tl fun _ _ => rfl)

end Cert.Ffn
end
-- ==== Proof.Ffn.Array.lean ====
/-
  What the expert feed-forward kernel's result array holds, read at an index over the argument arrays.
-/
module

public import proofs.«01_k».proof.Proof.Ffn.Block
public import Idealize.ShloMosaic.Lib.Pipeline.ValueKit

@[expose] public section
noncomputable section

namespace Cert.Ffn
open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ) (c : Dev nD)

/-- The windows' index maps over the grid: expert `t / 8`, batch row `t % 8`. -/
theorem idx : ∀ t : Fin cfg0.N, win0_0.index t = ![t.val % 8, t.val / 8, 0, 0] ∧ win0_1.index t = ![t.val % 8, t.val / 8, 0, 0]
    ∧ win0_2.index t = ![t.val / 8, 0, 0] ∧ win0_3.index t = ![t.val / 8, 0, 0] ∧ win0_4.index t = ![t.val / 8, 0, 0] :=
  (by decide +kernel : ∀ t : Fin grid0.N, _)

/-- The batch row and the expert of a grid point. -/
def bOf (t : Fin cfg0.N) : Fin 8 := ⟨t.val % 8, Nat.mod_lt _ (by decide)⟩
def eOf (t : Fin cfg0.N) : Fin 16 := ⟨t.val / 8, by have : t.val < 128 := lt_of_lt_of_eq t.isLt N_0; omega⟩

/-- The argument arrays. -/
abbrev A0 : Vec Ideal S8x16x512x1024 .f32 := m ((c : Thread nD τ).loc main_arg0)
abbrev A1 : Vec Ideal S8x16x16x512 .f32 := m ((c : Thread nD τ).loc main_arg1)
abbrev A2 : Vec Ideal S16x1024x2048 .f32 := m ((c : Thread nD τ).loc main_arg2)
abbrev A3 : Vec Ideal S16x1024x2048 .f32 := m ((c : Thread nD τ).loc main_arg3)
abbrev A4 : Vec Ideal S16x2048x1024 .f32 := m ((c : Thread nD τ).loc main_arg4)

theorem blk0 (t : Fin cfg0.N) (r : Fin 512) (k : Fin 1024) :
    (iblk m c 0 t : Vec Ideal S1x1x512x1024 .bf16) (ix4 0 0 r k) = A0 m c (ix4 (bOf t) (eOf t) r k) := by
  blk_ext! [iblk, V, idx t, bOf, eOf]
theorem blk1 (t : Fin cfg0.N) (j : Fin 16) (r : Fin 512) :
    (iblk m c 1 t : Vec Ideal S1x1x16x512 .f32) (ix4 0 0 j r) = A1 m c (ix4 (bOf t) (eOf t) j r) := by
  blk_ext! [iblk, V, idx t, bOf, eOf]
theorem blk2 (t : Fin cfg0.N) (k : Fin 1024) (f : Fin 2048) :
    (iblk m c 2 t : Vec Ideal S1x1024x2048 .bf16) (ix3 0 k f) = A2 m c (ix3 (eOf t) k f) := by
  blk_ext! [iblk, V, idx t, eOf]
theorem blk3 (t : Fin cfg0.N) (k : Fin 1024) (f : Fin 2048) :
    (iblk m c 3 t : Vec Ideal S1x1024x2048 .bf16) (ix3 0 k f) = A3 m c (ix3 (eOf t) k f) := by
  blk_ext! [iblk, V, idx t, eOf]
theorem blk4 (t : Fin cfg0.N) (f : Fin 2048) (k : Fin 1024) :
    (iblk m c 4 t : Vec Ideal S1x2048x1024 .f32) (ix3 0 f k) = A4 m c (ix3 (eOf t) f k) := by
  blk_ext! [iblk, V, idx t, eOf]

/-- The down projection of an expert, as the scratch keeps it. -/
def downOf (e : Fin 16) : Vec Ideal S2048x1024 .bf16 := fun y => A4 m c (ix3 e (y 0) (y 1))

theorem down_blk (t : Fin cfg0.N) : down (iblk m c 4 t) = downOf m c (eOf t) :=
  funext fun y => blk4 m c t (y 0) (y 1)

/-- After every grid point the scratch holds the point's expert's down projection. -/
theorem scratch (n : ℕ) : ∀ hn : n < cfg0.N, (outsAt0 m c n hn).2 = downOf m c (eOf ⟨n, hn⟩) := by
  induction n with
  | zero =>
    intro hn
    refine (congrArg Prod.snd (outsAt0_A m c ⟨0, hn⟩ rfl)).trans ?_
    dsimp only
    rw [sout_A]
    exact down_blk m c ⟨0, hn⟩
  | succ n ih =>
    intro hn
    by_cases h : (n + 1) % 8 = 0
    · refine (congrArg Prod.snd (outsAt0_A m c ⟨n + 1, hn⟩ h)).trans ?_
      dsimp only
      rw [sout_A]
      exact down_blk m c ⟨n + 1, hn⟩
    · refine (congrArg Prod.snd (outsAt0_B m c ⟨n + 1, hn⟩ h)).trans ?_
      dsimp only
      refine (ih (by omega)).trans (congrArg _ (Fin.ext ?_))
      show n / 8 = (n + 1) / 8
      omega

/-- The output block of an expert and a batch row, over the argument arrays. -/
def value (b : Fin 8) (e : Fin 16) (r : Fin 512) (n : Fin 1024) : EReal :=
  tile (fun k => A0 m c (ix4 b e r k)) (fun k f => A2 m c (ix3 e k f)) (fun k f => A3 m c (ix3 e k f))
      (fun f => A4 m c (ix3 e f n))
    * (A1 m c (ix4 b e 0 r) + A1 m c (ix4 b e 1 r) + A1 m c (ix4 b e 2 r))

theorem blockOut_eq (t : Fin cfg0.N) (r : Fin 512) (n : Fin 1024) :
    blockOut (iblk m c 0 t) (iblk m c 1 t) (iblk m c 2 t) (iblk m c 3 t) (downOf m c (eOf t)) r n
      = value m c (bOf t) (eOf t) r n := by
  unfold blockOut value
  simp only [blk0, blk1, blk2, blk3]
  rfl

/-- What a grid point leaves in the output block. -/
theorem out_at (t : Fin cfg0.N) (r : Fin 512) (n : Fin 1024) :
    (outsAt0 m c t.val t.isLt).1 (ix4 0 0 r n) = value m c (bOf t) (eOf t) r n := by
  by_cases h : t.val % 8 = 0
  · rw [outsAt0_A m c t h]
    dsimp only
    rw [out_A, down_blk]
    exact blockOut_eq m c t r n
  · rw [outsAt0_B m c t h]
    dsimp only
    rw [out_B, scratch m c (t.val - 1), show eOf ⟨t.val - 1, _⟩ = eOf t from Fin.ext (by show (t.val - 1) / 8 = t.val / 8; omega)]
    exact blockOut_eq m c t r n

/-- The result array at an index. -/
theorem G5_apply (b : Fin 8) (e : Fin 16) (r : Fin 512) (n : Fin 1024) :
    G5 m c (ix4 b e r n) = value m c b e r n := by
  have hp : pt5Of (ix4 b e r n) = b.val + 8 * e.val := by
    simp [pt5Of, run5Of, ix4]
    try omega
  have hlt : pt5Of (ix4 b e r n) < cfg0.N := lt_of_lt_of_eq (by rw [hp]; omega) N_0.symm
  unfold G5
  rw [dif_pos hlt, ← outsAt0_sweep m c _ hlt]
  have hl : loc5Of (ix4 b e r n) = ix4 0 0 r n := by
    funext a
    fin_cases a <;> apply Fin.ext <;> simp [loc5Of, ix4]
    all_goals omega
  rw [hl, out_at m c ⟨_, hlt⟩]
  congr 1
  · exact Fin.ext (by show pt5Of (ix4 b e r n) % 8 = _; omega)
  · exact Fin.ext (by show pt5Of (ix4 b e r n) / 8 = _; omega)

end Cert.Ffn
end
-- ==== Proof.Ffn.Reference.lean ====
/-
  What the expert feed-forward reference computes, read at an index.
-/
module

public import proofs.«01_k».proof.Proof.Ffn.Payload
public import proofs.«01_k».proof.Proof.Gen.Reference2Ideal.Read

@[expose] public section
noncomputable section

namespace Cert.Ffn
open Idealize.ShloMosaic Idealize.ShloMosaic.TcCoe
open Cert.Reference2Ideal Cert.Reference2Ideal.Value Cert.Reference2Ideal.Read

/-- The reference's result at an index. -/
theorem ref_apply (x0 : Vec Ideal S8x16x512x1024 .f32) (x1 : Vec Ideal S8x16x16x512 .f32)
    (x2 x3 : Vec Ideal S16x1024x2048 .f32) (x4 : Vec Ideal S16x2048x1024 .f32)
    (b : Fin 8) (e : Fin 16) (r : Fin 512) (n : Fin 1024) :
    val_main_v19 (F := Ideal) x0 x1 x2 x3 x4 (ix4 b e r n)
      = tile (fun k => x0 (ix4 b e r k)) (fun k f => x2 (ix3 e k f)) (fun k f => x3 (ix3 e k f)) (fun f => x4 (ix3 e f n))
        * (x1 (ix4 b e 0 r) + x1 (ix4 b e 1 r) + x1 (ix4 b e 2 r)) := by
  pointwise [val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_call0_v5, val_main_call0_v4,
    val_main_call0_v3, val_main_call0_v2, val_main_call0_v1, val_main_call0_v0, val_main_call0_cst, val_main_call0_cst_0]
  unfold tile hid act
  refine congrArg (· * _) (Finset.sum_congr rfl fun f _ => ?_)
  rw [mul_comm]
  simp only [mul_comm (x2 _) (x0 _), mul_comm (x3 _) (x0 _), sub_eq_add_neg, zero_add]

end Cert.Ffn
end
-- ==== Proof.Ffn.Equation.lean ====
/-
  The expert feed-forward call: kernel and reference leave the same result, and the reference's run is quiescent.
-/
module

public import proofs.«01_k».proof.Defs
public import proofs.«01_k».proof.Proof.Ffn.Array
public import proofs.«01_k».proof.Proof.Ffn.Reference
public import proofs.«01_k».proof.Proof.Gen.Kernel2Ideal
public import proofs.«01_k».proof.Proof.Gen.Reference2Ideal
public import proofs.«01_k».proof.Proof.Gen.Reference2Ideal.Run
public import Idealize.ShloMosaic.Lib.Quiescent

@[expose] public section
noncomputable section

namespace Cert.Ffn
open Idealize.ShloMosaic Idealize.ShloMosaic.TcCoe Idealize.SL.Sem

/-- The kernel's result array is the reference's term over the kernel's arguments. -/
theorem result (m : (ℓ : Loc Cert.Kernel2Ideal.nD Cert.Kernel2Ideal.τ Cert.Kernel2Ideal.sig) → Buf (Elt Ideal) ℓ)
    (c : Dev Cert.Kernel2Ideal.nD) :
    Cert.Kernel2Ideal.Value.G5 m c
      = Cert.Reference2Ideal.Read.val_main_v19 (F := Ideal) (A0 m c) (A1 m c) (A2 m c) (A3 m c) (A4 m c) := by
  funext i
  obtain ⟨b, e, r, n, rfl⟩ : ∃ (b : Fin 8) (e : Fin 16) (r : Fin 512) (n : Fin 1024), i = ix4 b e r n :=
    ⟨i 0, i 1, i 2, i 3, eq_ix4 i⟩
  rw [G5_apply]
  exact (ref_apply ..).symm

theorem reference_frame : Cert.quiescent_Reference2Ideal := fun m g _ =>
  (θ_run _ _ _).mono (fun r h => ⟨fun c => (h c).2, sem_eq_zero_of_no_sems (by decide) _⟩)
    (Cert.Reference2Ideal.Value.run (F := Ideal) m g)

theorem equal : Cert.algebraic_Kernel2Ideal_Reference2Ideal := by
  intro m g m' g' _ hargs
  refine ⟨fun c => Cert.Kernel2Ideal.Value.G5 m c, Cert.Kernel2Ideal.Value.run (F := Ideal) m g, ?_⟩
  refine (θ_run _ _ _).mono (fun r h c => ⟨((h c).1.trans (Cert.Reference2Ideal.Read.val_main_v19_eq (F := Ideal) ..)).trans ?_,
    (h c).2⟩) (Cert.Reference2Ideal.Value.run (F := Ideal) m' g')
  obtain ⟨h0, h1, h2, h3, h4⟩ := hargs c
  refine Eq.trans ?_ (result m c).symm
  rw [h0, h1, h2, h3, h4]

end Cert.Ffn
end
-- ==== Proof.InProj.Frame.lean ====
/- The frame of the input projection call as it is compiled.  Its program and the program read at the ideal
   instance are one text under two names, so the facts and the frame proved of the second are those of the first. -/
module

public import proofs.«01_k».proof.Defs
public import proofs.«01_k».proof.Proof.Gen.Kernel3Ideal.Frame

@[expose] public section

noncomputable section

namespace Cert.InProj

open Idealize.ShloMosaic Idealize.SL.Sem

/-- The side conditions of the compiled program are those of the ideal one. -/
theorem facts₀ : Cert.Kernel3.Facts₀ := by
  have h : Cert.Kernel3Ideal.Facts₀ := inferInstance
  cases h
  constructor <;> assumption

instance facts : Cert.Kernel3.Facts := { toFacts₀ := facts₀ }

/-- The two programs' bodies are one. -/
theorem defs₀_eq : @Cert.Kernel3.defs₀ Bits _ _ = @Cert.Kernel3Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))

/-- The two launches are one. -/
theorem defs_eq : @Cert.Kernel3.defs Bits _ _ = @Cert.Kernel3Ideal.defs Bits _ _ :=
  congrArg (Pipeline.defs Cert.Kernel3Ideal.pcfgs) defs₀_eq

/-- The programs that prepare the operands and launch are one. -/
theorem main_eq : @Cert.Kernel3.main Bits _ _ = @Cert.Kernel3Ideal.main Bits _ _ := by
  unfold Cert.Kernel3.main Cert.Kernel3Ideal.main
  rfl

/-- The call leaves its arguments as they were and its semaphores at zero. -/
theorem frame : Cert.quiescent_Kernel3 := by
  intro m ρ _
  have h := Cert.Kernel3Ideal.Gen.frame (F := Bits) m ρ
  rw [← defs_eq, ← main_eq] at h
  exact h

end Cert.InProj

end
-- ==== Proof.InProj.Payload.lean ====
/-
  What one grid step of the input projection kernel computes, payload by payload, read at an index.
-/
module

public import proofs.«01_k».proof.Proof.Gen.Kernel3Ideal.Skeleton
public import Idealize.ShloMosaic.Lib.Pointwise

@[expose] public section
noncomputable section

namespace Cert.InProj
open Idealize.ShloMosaic Idealize.ShloMosaic.TcCoe
open Cert.Kernel3Ideal Cert.Kernel3Ideal.Gen

/-- A row normalized by its root mean square, scaled by a gain and by one plus a scale, and shifted. The two literals are
    1024 and 1e-6. -/
def rmsNorm (x g sc sh : Fin 1024 → EReal) (k : Fin 1024) : EReal :=
  x k * Ideal.rsqrt (Ideal.div (∑ j, x j * x j) (Ideal.ofBits FTy.f32 0x44800000#32) + Ideal.ofBits FTy.f32 0x358637BD#32)
    * g k * (1 + sc k) + sh k

variable (x : Vec Ideal S1x512x1024 .f32) (g : Vec Ideal S1x1024 .f32) (sc sh : Vec Ideal S1x1x1024 .f32)
  (h : FVec Ideal S512x1024 .bf16) (w : Vec Ideal S1024x2048 .bf16) (b : Vec Ideal S1x2048 .f32)
  (w' : Vec Ideal S1024x1536 .bf16) (b' : Vec Ideal S1x1536 .f32) (p : FVec Ideal S512x2048 .f32)
  (r : Fin 512) (k : Fin 1024)

/-- A token's row, normalized by its root mean square, scaled and shifted. -/
theorem pay4_apply : k0_pay4 x g sc sh (ix2 r k)
    = rmsNorm (fun k => x (ix3 0 r k)) (fun k => g (ix2 0 k)) (fun k => sc (ix3 0 0 k)) (fun k => sh (ix3 0 0 k)) k := by
  pointwise [k0_pay4]
  rfl

/-- The cast keeps it. -/
theorem pay5_apply : k0_pay5 x g sc sh (ix2 r k) = k0_pay4 x g sc sh (ix2 r k) := by
  pointwise [k0_pay5]

/-- The first output's columns: the normalized row against the weights, plus the bias. -/
theorem pay6_apply (n : Fin 2048) : k0_pay6 x g sc sh w b (ix2 r n)
    = ∑ k, k0_pay4 x g sc sh (ix2 r k) * w (ix2 k n) + b (ix2 0 n) := by
  pointwise [k0_pay6, k0_pay5]

theorem pay1_apply (n : Fin 2048) : k0_pay1 p (ix3 0 r n) = p (ix2 r n) := by
  pointwise [k0_pay1]

/-- The second output's columns likewise. -/
theorem pay2_apply (n : Fin 1536) : k0_pay2 h w' b' (ix3 0 r n)
    = ∑ k, h (ix2 r k) * w' (ix2 k n) + b' (ix2 0 n) := by
  pointwise [k0_pay2]

end Cert.InProj
end
-- ==== Proof.InProj.Block.lean ====
/-
  The input projection kernel's blocks, read at an index over the argument arrays.
-/
module

public import proofs.«01_k».proof.Proof.Gen.Kernel3Ideal.Value
public import Idealize.ShloMosaic.Lib.Pipeline.ValueKit
public import Idealize.ShloMosaic.Lib.Pointwise

@[expose] public section
noncomputable section

namespace Cert.InProj
open Idealize.ShloMosaic Idealize.ShloMosaic.TcCoe Idealize.SL.Sem
open Cert.Kernel3Ideal Cert.Kernel3Ideal.Gen Cert.Kernel3Ideal.Value

variable (m : (ℓ : Loc nD τ sig) → Buf (Elt Ideal) ℓ) (c : Dev nD)

/-- The windows' index maps over the grid: batch row `t / 8`, tile of tokens `t % 8`. -/
theorem idx : ∀ t : Fin cfg0.N, win0_0.index t = ![t.val / 8, t.val % 8, 0] ∧ win0_1.index t = ![t.val / 8, 0, 0]
    ∧ win0_2.index t = ![t.val / 8, 0, 0] ∧ win0_3.index t = ![0, 0] ∧ win0_4.index t = ![0, 0]
    ∧ win0_5.index t = ![0, 0] ∧ win0_6.index t = ![0, 0] ∧ win0_7.index t = ![0, 0]
    ∧ win0_10.index t = ![t.val / 8, t.val % 8, 0] ∧ win0_11.index t = ![t.val / 8, t.val % 8, 0] :=
  (by decide +kernel : ∀ t : Fin grid0.N, _)

/-- The batch row of a grid point, and the token of a row of its tile. -/
def bOf (t : Fin cfg0.N) : Fin 8 := ⟨t.val / 8, by have : t.val < 64 := lt_of_lt_of_eq t.isLt N_0; omega⟩
def sOf (t : Fin cfg0.N) (r : Fin 512) : Fin 4096 := ⟨512 * (t.val % 8) + r.val, by omega⟩

/-- The argument arrays. -/
abbrev A0 : Vec Ideal S8x4096x1024 .f32 := m ((c : Thread nD τ).loc main_arg0)
abbrev A1 : Vec Ideal S8x1024 .f32 := m ((c : Thread nD τ).loc main_arg1)
abbrev A2 : Vec Ideal S8x1024 .f32 := m ((c : Thread nD τ).loc main_arg2)
abbrev A3 : Vec Ideal S1024 .f32 := m ((c : Thread nD τ).loc main_arg3)
abbrev A4 : Vec Ideal S1024x3600 .f32 := m ((c : Thread nD τ).loc main_arg4)
abbrev A5 : Vec Ideal S3600 .f32 := m ((c : Thread nD τ).loc main_arg5)

theorem blk0 (t : Fin cfg0.N) (r : Fin 512) (k : Fin 1024) :
    (iblk m c 0 t : Vec Ideal S1x512x1024 .f32) (ix3 0 r k) = A0 m c (ix3 (bOf t) (sOf t r) k) := by
  blk_ext! [iblk, V, idx t, bOf, sOf]
/-- What the host operations before the call leave in the arrays the call reads. -/
theorem V_v20 : V m c main_v20 = shapeCast S8x1x1024 (A1 m c) shapeCasts_S8x1024_S8x1x1024 := by
  simp only [V, hostOps0, hostOps0_1, hostOps0_2, hostOps0_3, hostOps0_4, List.flatten_cons, List.flatten_nil,
    List.append_nil, List.cons_append, List.nil_append]
  after_results_simp
  rfl
theorem V_v21 : V m c main_v21 = shapeCast S8x1x1024 (A2 m c) shapeCasts_S8x1024_S8x1x1024 := by
  simp only [V, hostOps0, hostOps0_1, hostOps0_2, hostOps0_3, hostOps0_4, List.flatten_cons, List.flatten_nil,
    List.append_nil, List.cons_append, List.nil_append]
  after_results_simp
  rfl
theorem V_v22 : V m c main_v22 = shapeCast S1x1024 (A3 m c) shapeCasts_S1024_S1x1024 := by
  simp only [V, hostOps0, hostOps0_1, hostOps0_2, hostOps0_3, hostOps0_4, List.flatten_cons, List.flatten_nil,
    List.append_nil, List.cons_append, List.nil_append]
  after_results_simp
  rfl
theorem V_v1 : V m c main_v1 = truncf (F := Ideal) .bf16
    (extractStridedSlice S1024x2048 ![0, 0] (A4 m c) slices_S1024x3600_S1024x2048_0_0) bitsLt_bf16_f32 := by
  simp only [V, hostOps0, hostOps0_1, hostOps0_2, hostOps0_3, hostOps0_4, List.flatten_cons, List.flatten_nil,
    List.append_nil, List.cons_append, List.nil_append]
  after_results_simp
theorem V_v3 : V m c main_v3 = truncf (F := Ideal) .bf16
    (extractStridedSlice S1024x1536 ![0, 2064] (A4 m c) slices_S1024x3600_S1024x1536_0_2064) bitsLt_bf16_f32 := by
  simp only [V, hostOps0, hostOps0_1, hostOps0_2, hostOps0_3, hostOps0_4, List.flatten_cons, List.flatten_nil,
    List.append_nil, List.cons_append, List.nil_append]
  after_results_simp
theorem V_v5 : V m c main_v5 = shapeCast S1x2048
    (extractStridedSlice S2048 ![0] (A5 m c) slices_S3600_S2048_0) shapeCasts_S2048_S1x2048 := by
  simp only [V, hostOps0, hostOps0_1, hostOps0_2, hostOps0_3, hostOps0_4, List.flatten_cons, List.flatten_nil,
    List.append_nil, List.cons_append, List.nil_append]
  after_results_simp
  rfl
theorem V_v7 : V m c main_v7 = shapeCast S1x1536
    (extractStridedSlice S1536 ![2064] (A5 m c) slices_S3600_S1536_2064) shapeCasts_S1536_S1x1536 := by
  simp only [V, hostOps0, hostOps0_1, hostOps0_2, hostOps0_3, hostOps0_4, List.flatten_cons, List.flatten_nil,
    List.append_nil, List.cons_append, List.nil_append]
  after_results_simp
  rfl

/-- An input block read from any array, at an index; then over the argument arrays. -/
theorem rd1 (A : Vec Ideal S8x1x1024 .f32) (t : Fin cfg0.N) (k : Fin 1024) :
    (((cfg0.win 1).blk t).view.read (Elt Ideal) A : Vec Ideal S1x1x1024 .f32) (ix3 0 0 k) = A (ix3 (bOf t) 0 k) := by
  blk_ext! [idx t, bOf]
theorem blk1 (t : Fin cfg0.N) (k : Fin 1024) :
    (iblk m c 1 t : Vec Ideal S1x1x1024 .f32) (ix3 0 0 k) = A1 m c (ix2 (bOf t) k) := by
  refine (rd1 (V m c main_v20) t k).trans ?_
  rw [V_v20]
  pointwise []
theorem rd2 (A : Vec Ideal S8x1x1024 .f32) (t : Fin cfg0.N) (k : Fin 1024) :
    (((cfg0.win 2).blk t).view.read (Elt Ideal) A : Vec Ideal S1x1x1024 .f32) (ix3 0 0 k) = A (ix3 (bOf t) 0 k) := by
  blk_ext! [idx t, bOf]
theorem blk2 (t : Fin cfg0.N) (k : Fin 1024) :
    (iblk m c 2 t : Vec Ideal S1x1x1024 .f32) (ix3 0 0 k) = A2 m c (ix2 (bOf t) k) := by
  refine (rd2 (V m c main_v21) t k).trans ?_
  rw [V_v21]
  pointwise []
theorem rd3 (A : Vec Ideal S1x1024 .f32) (t : Fin cfg0.N) (k : Fin 1024) :
    (((cfg0.win 3).blk t).view.read (Elt Ideal) A : Vec Ideal S1x1024 .f32) (ix2 0 k) = A (ix2 0 k) := by
  blk_ext! [idx t, bOf]
theorem blk3 (t : Fin cfg0.N) (k : Fin 1024) :
    (iblk m c 3 t : Vec Ideal S1x1024 .f32) (ix2 0 k) = A3 m c (ix1 k) := by
  refine (rd3 (V m c main_v22) t k).trans ?_
  rw [V_v22]
  pointwise []
theorem rd4 (A : Vec Ideal S1024x2048 .bf16) (t : Fin cfg0.N) (k : Fin 1024) (n : Fin 2048) :
    (((cfg0.win 4).blk t).view.read (Elt Ideal) A : Vec Ideal S1024x2048 .bf16) (ix2 k n) = A (ix2 k n) := by
  blk_ext! [idx t, bOf]
theorem blk4 (t : Fin cfg0.N) (k : Fin 1024) (n : Fin 2048) :
    (iblk m c 4 t : Vec Ideal S1024x2048 .bf16) (ix2 k n) = A4 m c (ix2 k ⟨n.val, by omega⟩) := by
  refine (rd4 (V m c main_v1) t k n).trans ?_
  rw [V_v1]
  pointwise []
theorem rd5 (A : Vec Ideal S1x2048 .f32) (t : Fin cfg0.N) (n : Fin 2048) :
    (((cfg0.win 5).blk t).view.read (Elt Ideal) A : Vec Ideal S1x2048 .f32) (ix2 0 n) = A (ix2 0 n) := by
  blk_ext! [idx t, bOf]
theorem blk5 (t : Fin cfg0.N) (n : Fin 2048) :
    (iblk m c 5 t : Vec Ideal S1x2048 .f32) (ix2 0 n) = A5 m c (ix1 ⟨n.val, by omega⟩) := by
  refine (rd5 (V m c main_v5) t n).trans ?_
  rw [V_v5]
  pointwise []
theorem rd6 (A : Vec Ideal S1024x1536 .bf16) (t : Fin cfg0.N) (k : Fin 1024) (n : Fin 1536) :
    (((cfg0.win 6).blk t).view.read (Elt Ideal) A : Vec Ideal S1024x1536 .bf16) (ix2 k n) = A (ix2 k n) := by
  blk_ext! [idx t, bOf]
theorem blk6 (t : Fin cfg0.N) (k : Fin 1024) (n : Fin 1536) :
    (iblk m c 6 t : Vec Ideal S1024x1536 .bf16) (ix2 k n) = A4 m c (ix2 k ⟨2064 + n.val, by omega⟩) := by
  refine (rd6 (V m c main_v3) t k n).trans ?_
  rw [V_v3]
  pointwise []
theorem rd7 (A : Vec Ideal S1x1536 .f32) (t : Fin cfg0.N) (n : Fin 1536) :
    (((cfg0.win 7).blk t).view.read (Elt Ideal) A : Vec Ideal S1x1536 .f32) (ix2 0 n) = A (ix2 0 n) := by
  blk_ext! [idx t, bOf]
theorem blk7 (t : Fin cfg0.N) (n : Fin 1536) :
    (iblk m c 7 t : Vec Ideal S1x1536 .f32) (ix2 0 n) = A5 m c (ix1 ⟨2064 + n.val, by omega⟩) := by
  refine (rd7 (V m c main_v7) t n).trans ?_
  rw [V_v7]
  pointwise []

/-- An output block read back from any array, at an index. -/
theorem blk10 (A : Vec Ideal S8x4096x2048 .f32) (t : Fin cfg0.N) (r : Fin 512) (n : Fin 2048) :
    (((cfg0.win 10).blk t).view.read (Elt Ideal) A : Vec Ideal S1x512x2048 .f32) (ix3 0 r n)
      = A (ix3 (bOf t) (sOf t r) n) := by
  blk_ext! [idx t, bOf, sOf]
theorem blk11 (A : Vec Ideal S8x4096x1536 .f32) (t : Fin cfg0.N) (r : Fin 512) (n : Fin 1536) :
    (((cfg0.win 11).blk t).view.read (Elt Ideal) A : Vec Ideal S1x512x1536 .f32) (ix3 0 r n)
      = A (ix3 (bOf t) (sOf t r) n) := by
  blk_ext! [idx t, bOf, sOf]

end Cert.InProj
end
-- ==== Proof.InProj.Array.lean ====
/-
  What the input projection kernel's two result arrays hold, read at an index over the argument arrays.
-/
module

public import proofs.«01_k».proof.Proof.InProj.Payload
public import proofs.«01_k».proof.Proof.InProj.Block

@[expose] public section
noncomputable section

namespace Cert.InProj
open Idealize.ShloMosaic Idealize.ShloMosaic.TcCoe Idealize.SL.Sem
open Cert.Kernel3Ideal Cert.Kernel3Ideal.Gen Cert.Kernel3Ideal.Value

theorem hz2 : (![0, 0] : Fin 2 → Nat) = fun _ => 0 := funext fun a => by fin_cases a <;> rfl
theorem hz3 : (![0, 0, 0] : Fin 3 → Nat) = fun _ => 0 := funext fun a => by fin_cases a <;> rfl

section Body
variable (x0 : Vec Ideal S1x512x1024 .f32) (x1 x2 : Vec Ideal S1x1x1024 .f32) (x3 : Vec Ideal S1x1024 .f32)
  (x4 : Vec Ideal S1024x2048 .bf16) (x5 : Vec Ideal S1x2048 .f32) (x6 : Vec Ideal S1024x1536 .bf16)
  (x7 : Vec Ideal S1x1536 .f32) (x8 : Vec Ideal S32x1024 .f32) (x9 : Vec Ideal S32x1 .f32) (r : Fin 512)

/-- One grid step's first output block: the normalized rows against the weights, plus the bias. -/
theorem out10_apply (n : Fin 2048) : out0_10 x0 x1 x2 x3 x4 x5 x6 x7 x8 x9 (ix3 0 r n)
    = ∑ k, rmsNorm (fun k => x0 (ix3 0 r k)) (fun k => x3 (ix2 0 k)) (fun k => x1 (ix3 0 0 k)) (fun k => x2 (ix3 0 0 k)) k
        * x4 (ix2 k n) + x5 (ix2 0 n) := by
  unfold out0_10
  rw [View.canon_unit_zero hz3, View.ld_unit_zero hz3, View.ld_unit_zero hz2, View.ld_unit_zero hz3,
    View.ld_unit_zero hz3, View.ld_unit_zero hz2, View.ld_unit_zero hz2, pay1_apply, pay6_apply]
  simp only [pay4_apply]

/-- One grid step's second output block. -/
theorem out11_apply (n : Fin 1536) : out0_11 x0 x1 x2 x3 x4 x5 x6 x7 x8 x9 (ix3 0 r n)
    = ∑ k, rmsNorm (fun k => x0 (ix3 0 r k)) (fun k => x3 (ix2 0 k)) (fun k => x1 (ix3 0 0 k)) (fun k => x2 (ix3 0 0 k)) k
        * x6 (ix2 k n) + x7 (ix2 0 n) := by
  unfold out0_11
  rw [View.canon_unit_zero hz3, View.ld_unit_zero hz3, View.ld_unit_zero hz2, View.ld_unit_zero hz3,
    View.ld_unit_zero hz3, View.ld_unit_zero hz2, View.ld_unit_zero hz2, pay2_apply]
  simp only [pay5_apply, pay4_apply]

end Body

variable (m : (ℓ : Loc nD τ sig) → Buf (Elt Ideal) ℓ) (c : Dev nD)

/-- A normalized token over the argument arrays. -/
abbrev tok (b : Fin 8) (s : Fin 4096) (k : Fin 1024) : EReal :=
  rmsNorm (fun k => A0 m c (ix3 b s k)) (fun k => A3 m c (ix1 k)) (fun k => A1 m c (ix2 b k)) (fun k => A2 m c (ix2 b k)) k

/-- The grid point whose tile holds a token, and the token's row there. -/
def ptOf (b : Fin 8) (s : Fin 4096) : Fin cfg0.N := ⟨8 * b.val + s.val / 512, lt_of_lt_of_eq (by omega) N_0.symm⟩
def rowOf (s : Fin 4096) : Fin 512 := ⟨s.val % 512, Nat.mod_lt _ (by decide)⟩

theorem bOf_ptOf (b : Fin 8) (s : Fin 4096) : bOf (ptOf b s) = b :=
  Fin.ext (by show (8 * b.val + s.val / 512) / 8 = b.val; omega)
theorem sOf_ptOf (b : Fin 8) (s : Fin 4096) : sOf (ptOf b s) (rowOf s) = s :=
  Fin.ext (by show 512 * ((8 * b.val + s.val / 512) % 8) + s.val % 512 = s.val; omega)

theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)

/-- The first result array at an index. -/
theorem arr10_apply (b : Fin 8) (s : Fin 4096) (n : Fin 2048) :
    ((dats m 0 c).arrAt 10 cfg0.N : Vec Ideal S8x4096x2048 .f32) (ix3 b s n)
      = ∑ k, tok m c b s k * A4 m c (ix2 k ⟨n.val, by omega⟩) + A5 m c (ix1 ⟨n.val, by omega⟩) := by
  have h := blk10 ((dats m 0 c).arrAt 10 cfg0.N) (ptOf b s) (rowOf s) n
  rw [bOf_ptOf, sOf_ptOf] at h
  rw [← h, blocks10 m c _ (flush10 _), flushed10]
  refine (out10_apply _ _ _ _ _ _ _ _ _ _ (rowOf s) n).trans ?_
  simp only [blk0, blk1, blk2, blk3, blk4, blk5, bOf_ptOf, sOf_ptOf]

/-- The second result array at an index. -/
theorem arr11_apply (b : Fin 8) (s : Fin 4096) (n : Fin 1536) :
    ((dats m 0 c).arrAt 11 cfg0.N : Vec Ideal S8x4096x1536 .f32) (ix3 b s n)
      = ∑ k, tok m c b s k * A4 m c (ix2 k ⟨2064 + n.val, by omega⟩) + A5 m c (ix1 ⟨2064 + n.val, by omega⟩) := by
  have h := blk11 ((dats m 0 c).arrAt 11 cfg0.N) (ptOf b s) (rowOf s) n
  rw [bOf_ptOf, sOf_ptOf] at h
  rw [← h, blocks11 m c _ (flush11 _), flushed11]
  refine (out11_apply _ _ _ _ _ _ _ _ _ _ (rowOf s) n).trans ?_
  simp only [blk0, blk1, blk2, blk3, blk6, blk7, bOf_ptOf, sOf_ptOf]

end Cert.InProj
end
-- ==== Proof.InProj.Reference.lean ====
/-
  What the input projection reference computes, read at an index.
-/
module

public import proofs.«01_k».proof.Proof.InProj.Payload
public import proofs.«01_k».proof.Proof.Gen.Reference3Ideal.Read
public import Idealize.ShloMosaic.Lib.Pointwise

@[expose] public section
noncomputable section

namespace Cert.InProj
open Idealize.ShloMosaic Idealize.ShloMosaic.TcCoe
open Cert.Reference3Ideal Cert.Reference3Ideal.Value Cert.Reference3Ideal.Read

variable (x0 : Vec Ideal S8x4096x1024 .f32) (x1 x2 : Vec Ideal S8x1024 .f32) (x3 : Vec Ideal S1024 .f32)
  (x4 : Vec Ideal S1024x3600 .f32) (x5 : Vec Ideal S3600 .f32) (b : Fin 8) (s : Fin 4096)

/-- The normalized token. -/
theorem v20_apply (k : Fin 1024) : val_main_v20 (F := Ideal) x0 x1 x2 x3 (ix3 b s k)
    = rmsNorm (fun k => x0 (ix3 b s k)) (fun k => x3 (ix1 k)) (fun k => x1 (ix2 b k)) (fun k => x2 (ix2 b k)) k := by
  pointwise [val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- The first result: columns 0 to 2047 of the projection. -/
theorem v25_apply (n : Fin 2048) : val_main_v25 (F := Ideal) x0 x1 x2 x3 x4 x5 (ix3 b s n)
     = ∑ k, val_main_v20 (F := Ideal) x0 x1 x2 x3 (ix3 b s k) * x4 (ix2 k ⟨n.val, by omega⟩) + x5 (ix1 ⟨n.val, by omega⟩) := by
  pointwise [val_main_v25, val_main_v24, val_main_v23, val_main_v22, val_main_v21]

/-- The second result: columns 2064 to 3599 of the projection. -/
theorem v26_apply (n : Fin 1536) : val_main_v26 (F := Ideal) x0 x1 x2 x3 x4 x5 (ix3 b s n)
     = ∑ k, val_main_v20 (F := Ideal) x0 x1 x2 x3 (ix3 b s k) * x4 (ix2 k ⟨2064 + n.val, by omega⟩)
       + x5 (ix1 ⟨2064 + n.val, by omega⟩) := by
  pointwise [val_main_v26, val_main_v24, val_main_v23, val_main_v22, val_main_v21]

end Cert.InProj
end
-- ==== Proof.InProj.Equation.lean ====
/-
  The input projection call: kernel and reference leave the same two results, and the reference's run is quiescent.
-/
module

public import proofs.«01_k».proof.Defs
public import proofs.«01_k».proof.Proof.InProj.Array
public import proofs.«01_k».proof.Proof.InProj.Reference
public import proofs.«01_k».proof.Proof.Gen.Kernel3Ideal
public import proofs.«01_k».proof.Proof.Gen.Reference3Ideal
public import proofs.«01_k».proof.Proof.Gen.Reference3Ideal.Run
public import Idealize.ShloMosaic.Lib.Quiescent

@[expose] public section
noncomputable section

namespace Cert.InProj
open Idealize.ShloMosaic Idealize.ShloMosaic.TcCoe Idealize.SL.Sem

variable (m : (ℓ : Loc Cert.Kernel3Ideal.nD Cert.Kernel3Ideal.τ Cert.Kernel3Ideal.sig) → Buf (Elt Ideal) ℓ)
  (c : Dev Cert.Kernel3Ideal.nD)

/-- The kernel's result arrays. -/
def out0 : Vec Ideal Cert.Kernel3Ideal.S8x4096x2048 .f32 :=
  (Cert.Kernel3Ideal.Gen.dats m 0 c).arrAt 10 Cert.Kernel3Ideal.cfg0.N
def out1 : Vec Ideal Cert.Kernel3Ideal.S8x4096x1536 .f32 :=
  (Cert.Kernel3Ideal.Gen.dats m 0 c).arrAt 11 Cert.Kernel3Ideal.cfg0.N

/-- They are the reference's terms over the kernel's arguments. -/
theorem result0 : out0 m c = Cert.Reference3Ideal.Read.val_main_v25 (F := Ideal)
    (A0 m c) (A1 m c) (A2 m c) (A3 m c) (A4 m c) (A5 m c) := by
  funext i
  obtain ⟨b, s, n, rfl⟩ : ∃ (b : Fin 8) (s : Fin 4096) (n : Fin 2048), i = ix3 b s n := ⟨i 0, i 1, i 2, eq_ix3 i⟩
  refine (arr10_apply m c b s n).trans ?_
  refine Eq.trans ?_ (v25_apply ..).symm
  simp only [v20_apply]
theorem result1 : out1 m c = Cert.Reference3Ideal.Read.val_main_v26 (F := Ideal)
    (A0 m c) (A1 m c) (A2 m c) (A3 m c) (A4 m c) (A5 m c) := by
  funext i
  obtain ⟨b, s, n, rfl⟩ : ∃ (b : Fin 8) (s : Fin 4096) (n : Fin 1536), i = ix3 b s n := ⟨i 0, i 1, i 2, eq_ix3 i⟩
  refine (arr11_apply m c b s n).trans ?_
  refine Eq.trans ?_ (v26_apply ..).symm
  simp only [v20_apply]

theorem reference_frame : Cert.quiescent_Reference3Ideal := fun m g _ =>
  (θ_run _ _ _).mono (fun r h => ⟨fun c => (h c).2.2, sem_eq_zero_of_no_sems (by decide) _⟩)
    (Cert.Reference3Ideal.Value.run (F := Ideal) m g)

theorem equal : Cert.algebraic_Kernel3Ideal_Reference3Ideal := by
  intro m g m' g' _ hargs
  refine ⟨fun c => out0 m c, fun c => out1 m c, ?_, ?_⟩
  · refine (θ_run _ _ _).mono (fun r h c => ⟨(h c).1, (h c).2.1, (h c).2.2.2⟩)
      (Cert.Kernel3Ideal.Value.run_blocks (F := Ideal) m g)
  refine (θ_run _ _ _).mono (fun r h c =>
    ⟨((h c).1.trans (Cert.Reference3Ideal.Read.val_main_v25_eq (F := Ideal) ..)).trans ?_,
     ((h c).2.1.trans (Cert.Reference3Ideal.Read.val_main_v26_eq (F := Ideal) ..)).trans ?_, (h c).2.2⟩)
    (Cert.Reference3Ideal.Value.run (F := Ideal) m' g')
  · obtain ⟨h0, h1, h2, h3, h4, h5⟩ := hargs c
    refine Eq.trans ?_ (result0 m c).symm
    rw [h0, h1, h2, h3, h4, h5]
  · obtain ⟨h0, h1, h2, h3, h4, h5⟩ := hargs c
    refine Eq.trans ?_ (result1 m c).symm
    rw [h0, h1, h2, h3, h4, h5]

end Cert.InProj
end
-- ==== Proof.OutProj.Frame.lean ====
/- The frame of the output projection call as it is compiled.  Its program and the program read at the ideal
   instance are one text under two names, so the facts and the frame proved of the second are those of the first. -/
module

public import proofs.«01_k».proof.Defs
public import proofs.«01_k».proof.Proof.Gen.Kernel4Ideal.Frame

@[expose] public section

noncomputable section

namespace Cert.OutProj

open Idealize.ShloMosaic Idealize.SL.Sem

/-- The side conditions of the compiled program are those of the ideal one. -/
theorem facts₀ : Cert.Kernel4.Facts₀ := by
  have h : Cert.Kernel4Ideal.Facts₀ := inferInstance
  cases h
  constructor <;> assumption

instance facts : Cert.Kernel4.Facts := { toFacts₀ := facts₀ }

/-- The two programs' bodies are one. -/
theorem defs₀_eq : @Cert.Kernel4.defs₀ Bits _ _ = @Cert.Kernel4Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))

/-- The two launches are one. -/
theorem defs_eq : @Cert.Kernel4.defs Bits _ _ = @Cert.Kernel4Ideal.defs Bits _ _ :=
  congrArg (Pipeline.defs Cert.Kernel4Ideal.pcfgs) defs₀_eq

/-- The programs that prepare the operands and launch are one. -/
theorem main_eq : @Cert.Kernel4.main Bits _ _ = @Cert.Kernel4Ideal.main Bits _ _ := by
  unfold Cert.Kernel4.main Cert.Kernel4Ideal.main
  rfl

/-- The call leaves its arguments as they were and its semaphores at zero. -/
theorem frame : Cert.quiescent_Kernel4 := by
  intro m ρ _
  have h := Cert.Kernel4Ideal.Gen.frame (F := Bits) m ρ
  rw [← defs_eq, ← main_eq] at h
  exact h

end Cert.OutProj

end
-- ==== Proof.OutProj.Payload.lean ====
/-
  What one grid step of the output projection kernel computes, payload by payload, read at an index.
-/
module

public import proofs.«01_k».proof.Proof.InProj.Payload
public import proofs.«01_k».proof.Proof.Gen.Kernel4Ideal.Frame
public import Idealize.ShloMosaic.Lib.Pointwise

@[expose] public section
noncomputable section

namespace Cert.OutProj
open Idealize.ShloMosaic Idealize.ShloMosaic.TcCoe
open Cert.Kernel4Ideal Cert.Kernel4Ideal.Gen
open Cert.InProj (rmsNorm)

/-- A residual entry plus its gate times the two halves of the mixed row against the two halves of the weights. -/
def resid (y z : Fin 512 → EReal) (v w : Fin 512 → EReal) (x gt : EReal) : EReal :=
  x + gt * (∑ k, y k * v k + ∑ k, z k * w k)

variable (y z : Vec Ideal S1x512x512 .f32) (v w : Vec Ideal S512x1024 .bf16) (x : Vec Ideal S1x512x1024 .f32)
  (gt sc sh : Vec Ideal S1x1x1024 .f32) (g : Vec Ideal S1x1024 .f32) (x9 : Vec Ideal S16x1024 .f32)
  (p : FVec Ideal S512x1024 .f32) (q : FVec Ideal S1x1024 .f32) (a b : FVec Ideal S512x1 .f32) (r : Fin 512) (n : Fin 1024)

/-- The new residual entry. -/
theorem pay2_apply : k0_pay2 y v z w x gt (ix2 r n)
    = resid (fun k => y (ix3 0 r k)) (fun k => z (ix3 0 r k)) (fun k => v (ix2 k n)) (fun k => w (ix2 k n))
        (x (ix3 0 r n)) (gt (ix3 0 0 n)) := by
  pointwise [k0_pay2]
  rfl
theorem pay3_apply : k0_pay3 y v z w x gt (ix3 0 r n) = k0_pay2 y v z w x gt (ix2 r n) := by
  pointwise [k0_pay3]
theorem pay4_apply : k0_pay4 g (ix2 0 n) = g (ix2 0 n) := by
  pointwise [k0_pay4]

/-- The mean square of the new residual's row. -/
theorem pay5_apply : k0_pay5 y v z w x gt (ix2 r 0)
    = Ideal.div (∑ k, k0_pay2 y v z w x gt (ix2 r k) * k0_pay2 y v z w x gt (ix2 r k))
        (Ideal.ofBits FTy.f32 0x44800000#32) := by
  pointwise [k0_pay5]
theorem pay6_apply : k0_pay6 (F := Ideal) (ix2 r 0) = Ideal.ofBits FTy.f32 0x358637BD#32 := by
  pointwise [k0_pay6]

/-- The row normalized, scaled and shifted. -/
theorem pay8_apply : k0_pay8 p q a b sc sh (ix3 0 r n)
    = p (ix2 r n) * Ideal.rsqrt (a (ix2 r 0) + b (ix2 r 0)) * q (ix2 0 n) * (1 + sc (ix3 0 0 n)) + sh (ix3 0 0 n) := by
  pointwise [k0_pay8, k0_pay7]

theorem hz2 : (![0, 0] : Fin 2 → Nat) = fun _ => 0 := funext fun a => by fin_cases a <;> rfl
theorem hz3 : (![0, 0, 0] : Fin 3 → Nat) = fun _ => 0 := funext fun a => by fin_cases a <;> rfl

/-- One grid step's first output block: the new residual. -/
theorem out10_apply : out0_10 y z x gt sc sh g v w x9 (ix3 0 r n)
    = resid (fun k => y (ix3 0 r k)) (fun k => z (ix3 0 r k)) (fun k => v (ix2 k n)) (fun k => w (ix2 k n))
        (x (ix3 0 r n)) (gt (ix3 0 0 n)) := by
  unfold out0_10
  rw [View.canon_unit_zero hz3, View.ld_unit_zero hz3, View.ld_unit_zero hz2, View.ld_unit_zero hz3,
    View.ld_unit_zero hz2, View.ld_unit_zero hz3, View.ld_unit_zero hz3, pay3_apply, pay2_apply]

/-- One grid step's second output block: the new residual's rows normalized. -/
theorem out11_apply : out0_11 y z x gt sc sh g v w x9 (ix3 0 r n)
    = rmsNorm (fun n => resid (fun k => y (ix3 0 r k)) (fun k => z (ix3 0 r k)) (fun k => v (ix2 k n)) (fun k => w (ix2 k n))
        (x (ix3 0 r n)) (gt (ix3 0 0 n))) (fun n => g (ix2 0 n)) (fun n => sc (ix3 0 0 n)) (fun n => sh (ix3 0 0 n)) n := by
  unfold out0_11 k0_pay14 k0_pay13 k0_pay12 k0_pay11
  rw [View.canon_unit_zero hz3]
  repeat first | rw [View.ld_unit_zero hz3] | rw [View.ld_unit_zero hz2]
  simp only [pay8_apply, pay4_apply, pay5_apply, pay6_apply, pay2_apply]
  rfl

end Cert.OutProj
end
-- ==== Proof.OutProj.Block.lean ====
/-
  The output projection kernel's blocks, read at an index over the argument arrays.
-/
module

public import proofs.«01_k».proof.Proof.Gen.Kernel4Ideal.Value
public import Idealize.ShloMosaic.Lib.Pipeline.ValueKit
public import Idealize.ShloMosaic.Lib.Pointwise

@[expose] public section
noncomputable section

namespace Cert.OutProj
open Idealize.ShloMosaic Idealize.ShloMosaic.TcCoe Idealize.SL.Sem
open Cert.Kernel4Ideal Cert.Kernel4Ideal.Gen Cert.Kernel4Ideal.Value

variable (m : (ℓ : Loc nD τ sig) → Buf (Elt Ideal) ℓ) (c : Dev nD)

/-- The windows' index maps over the grid: batch row `t / 8`, tile of tokens `t % 8`. -/
theorem idx : ∀ t : Fin cfg0.N, win0_0.index t = ![t.val / 8, t.val % 8, 0] ∧ win0_1.index t = ![t.val / 8, t.val % 8, 0]
    ∧ win0_2.index t = ![t.val / 8, t.val % 8, 0] ∧ win0_3.index t = ![t.val / 8, 0, 0]
    ∧ win0_4.index t = ![t.val / 8, 0, 0] ∧ win0_5.index t = ![t.val / 8, 0, 0] ∧ win0_6.index t = ![0, 0]
    ∧ win0_7.index t = ![0, 0] ∧ win0_8.index t = ![0, 0]
    ∧ win0_10.index t = ![t.val / 8, t.val % 8, 0] ∧ win0_11.index t = ![t.val / 8, t.val % 8, 0] :=
  (by decide +kernel : ∀ t : Fin grid0.N, _)

/-- The batch row of a grid point, and the token of a row of its tile. -/
def bOf (t : Fin cfg0.N) : Fin 8 := ⟨t.val / 8, by have : t.val < 64 := lt_of_lt_of_eq t.isLt N_0; omega⟩
def sOf (t : Fin cfg0.N) (r : Fin 512) : Fin 4096 := ⟨512 * (t.val % 8) + r.val, by omega⟩

/-- The argument arrays the two results are computed from. -/
abbrev A0 : Vec Ideal S8x4096x512 .f32 := m ((c : Thread nD τ).loc main_arg0)
abbrev A1 : Vec Ideal S8x4096x512 .f32 := m ((c : Thread nD τ).loc main_arg1)
abbrev A2 : Vec Ideal S8x4096x1024 .f32 := m ((c : Thread nD τ).loc main_arg2)
abbrev A3 : Vec Ideal S8x1024 .f32 := m ((c : Thread nD τ).loc main_arg3)
abbrev A4 : Vec Ideal S8x1024 .f32 := m ((c : Thread nD τ).loc main_arg4)
abbrev A5 : Vec Ideal S8x1024 .f32 := m ((c : Thread nD τ).loc main_arg5)
abbrev A6 : Vec Ideal S1024 .f32 := m ((c : Thread nD τ).loc main_arg6)
abbrev A7 : Vec Ideal S1024x1024 .f32 := m ((c : Thread nD τ).loc main_arg7)

theorem blk0 (t : Fin cfg0.N) (r : Fin 512) (k : Fin 512) :
    (iblk m c 0 t : Vec Ideal S1x512x512 .f32) (ix3 0 r k) = A0 m c (ix3 (bOf t) (sOf t r) k) := by
  blk_ext! [iblk, V, idx t, bOf, sOf]
theorem blk1 (t : Fin cfg0.N) (r : Fin 512) (k : Fin 512) :
    (iblk m c 1 t : Vec Ideal S1x512x512 .f32) (ix3 0 r k) = A1 m c (ix3 (bOf t) (sOf t r) k) := by
  blk_ext! [iblk, V, idx t, bOf, sOf]
theorem blk2 (t : Fin cfg0.N) (r : Fin 512) (k : Fin 1024) :
    (iblk m c 2 t : Vec Ideal S1x512x1024 .f32) (ix3 0 r k) = A2 m c (ix3 (bOf t) (sOf t r) k) := by
  blk_ext! [iblk, V, idx t, bOf, sOf]

/-- What the host operations before the call leave in the arrays the call reads. -/
theorem V_v6 : V m c main_v6 = shapeCast S8x1x1024 (A3 m c) shapeCasts_S8x1024_S8x1x1024 := by
  simp only [V, hostOps0]
  after_results_simp
  rfl
theorem V_v7 : V m c main_v7 = shapeCast S8x1x1024 (A4 m c) shapeCasts_S8x1024_S8x1x1024 := by
  simp only [V, hostOps0]
  after_results_simp
  rfl
theorem V_v8 : V m c main_v8 = shapeCast S8x1x1024 (A5 m c) shapeCasts_S8x1024_S8x1x1024 := by
  simp only [V, hostOps0]
  after_results_simp
  rfl
theorem V_v5 : V m c main_v5 = shapeCast S1x1024 (A6 m c) shapeCasts_S1024_S1x1024 := by
  simp only [V, hostOps0]
  after_results_simp
  rfl
theorem V_v1 : V m c main_v1 = truncf (F := Ideal) .bf16
    (extractStridedSlice S512x1024 ![0, 0] (A7 m c) slices_S1024x1024_S512x1024_0_0) bitsLt_bf16_f32 := by
  simp only [V, hostOps0]
  after_results_simp
theorem V_v3 : V m c main_v3 = truncf (F := Ideal) .bf16
    (extractStridedSlice S512x1024 ![512, 0] (A7 m c) slices_S1024x1024_S512x1024_512_0) bitsLt_bf16_f32 := by
  simp only [V, hostOps0]
  after_results_simp

/-- An input block read from any array, at an index; then over the argument arrays. -/
theorem rd3 (A : Vec Ideal S8x1x1024 .f32) (t : Fin cfg0.N) (k : Fin 1024) :
    (((cfg0.win 3).blk t).view.read (Elt Ideal) A : Vec Ideal S1x1x1024 .f32) (ix3 0 0 k) = A (ix3 (bOf t) 0 k) := by
  blk_ext! [idx t, bOf]
theorem blk3 (t : Fin cfg0.N) (k : Fin 1024) :
    (iblk m c 3 t : Vec Ideal S1x1x1024 .f32) (ix3 0 0 k) = A3 m c (ix2 (bOf t) k) := by
  refine (rd3 (V m c main_v6) t k).trans ?_
  rw [V_v6]
  pointwise []
theorem rd4 (A : Vec Ideal S8x1x1024 .f32) (t : Fin cfg0.N) (k : Fin 1024) :
    (((cfg0.win 4).blk t).view.read (Elt Ideal) A : Vec Ideal S1x1x1024 .f32) (ix3 0 0 k) = A (ix3 (bOf t) 0 k) := by
  blk_ext! [idx t, bOf]
theorem blk4 (t : Fin cfg0.N) (k : Fin 1024) :
    (iblk m c 4 t : Vec Ideal S1x1x1024 .f32) (ix3 0 0 k) = A4 m c (ix2 (bOf t) k) := by
  refine (rd4 (V m c main_v7) t k).trans ?_
  rw [V_v7]
  pointwise []
theorem rd5 (A : Vec Ideal S8x1x1024 .f32) (t : Fin cfg0.N) (k : Fin 1024) :
    (((cfg0.win 5).blk t).view.read (Elt Ideal) A : Vec Ideal S1x1x1024 .f32) (ix3 0 0 k) = A (ix3 (bOf t) 0 k) := by
  blk_ext! [idx t, bOf]
theorem blk5 (t : Fin cfg0.N) (k : Fin 1024) :
    (iblk m c 5 t : Vec Ideal S1x1x1024 .f32) (ix3 0 0 k) = A5 m c (ix2 (bOf t) k) := by
  refine (rd5 (V m c main_v8) t k).trans ?_
  rw [V_v8]
  pointwise []
theorem rd6 (A : Vec Ideal S1x1024 .f32) (t : Fin cfg0.N) (k : Fin 1024) :
    (((cfg0.win 6).blk t).view.read (Elt Ideal) A : Vec Ideal S1x1024 .f32) (ix2 0 k) = A (ix2 0 k) := by
  blk_ext! [idx t, bOf]
theorem blk6 (t : Fin cfg0.N) (k : Fin 1024) :
    (iblk m c 6 t : Vec Ideal S1x1024 .f32) (ix2 0 k) = A6 m c (ix1 k) := by
  refine (rd6 (V m c main_v5) t k).trans ?_
  rw [V_v5]
  pointwise []
theorem rd7 (A : Vec Ideal S512x1024 .bf16) (t : Fin cfg0.N) (k : Fin 512) (n : Fin 1024) :
    (((cfg0.win 7).blk t).view.read (Elt Ideal) A : Vec Ideal S512x1024 .bf16) (ix2 k n) = A (ix2 k n) := by
  blk_ext! [idx t, bOf]
theorem blk7 (t : Fin cfg0.N) (k : Fin 512) (n : Fin 1024) :
    (iblk m c 7 t : Vec Ideal S512x1024 .bf16) (ix2 k n) = A7 m c (ix2 ⟨k.val, by omega⟩ n) := by
  refine (rd7 (V m c main_v1) t k n).trans ?_
  rw [V_v1]
  pointwise []
theorem rd8 (A : Vec Ideal S512x1024 .bf16) (t : Fin cfg0.N) (k : Fin 512) (n : Fin 1024) :
    (((cfg0.win 8).blk t).view.read (Elt Ideal) A : Vec Ideal S512x1024 .bf16) (ix2 k n) = A (ix2 k n) := by
  blk_ext! [idx t, bOf]
theorem blk8 (t : Fin cfg0.N) (k : Fin 512) (n : Fin 1024) :
    (iblk m c 8 t : Vec Ideal S512x1024 .bf16) (ix2 k n) = A7 m c (ix2 ⟨512 + k.val, by omega⟩ n) := by
  refine (rd8 (V m c main_v3) t k n).trans ?_
  rw [V_v3]
  pointwise []

/-- An output block read back from any array, at an index. -/
theorem blk10 (A : Vec Ideal S8x4096x1024 .f32) (t : Fin cfg0.N) (r : Fin 512) (n : Fin 1024) :
    (((cfg0.win 10).blk t).view.read (Elt Ideal) A : Vec Ideal S1x512x1024 .f32) (ix3 0 r n)
      = A (ix3 (bOf t) (sOf t r) n) := by
  blk_ext! [idx t, bOf, sOf]
theorem blk11 (A : Vec Ideal S8x4096x1024 .bf16) (t : Fin cfg0.N) (r : Fin 512) (n : Fin 1024) :
    (((cfg0.win 11).blk t).view.read (Elt Ideal) A : Vec Ideal S1x512x1024 .bf16) (ix3 0 r n)
      = A (ix3 (bOf t) (sOf t r) n) := by
  blk_ext! [idx t, bOf, sOf]

end Cert.OutProj
end
-- ==== Proof.OutProj.Array.lean ====
/-
  What the output projection kernel's two result arrays hold, read at an index over the argument arrays.
-/
module

public import proofs.«01_k».proof.Proof.OutProj.Payload
public import proofs.«01_k».proof.Proof.OutProj.Block

@[expose] public section
noncomputable section

namespace Cert.OutProj
open Idealize.ShloMosaic Idealize.ShloMosaic.TcCoe Idealize.SL.Sem
open Cert.Kernel4Ideal Cert.Kernel4Ideal.Gen Cert.Kernel4Ideal.Value
open Cert.InProj (rmsNorm)

variable (m : (ℓ : Loc nD τ sig) → Buf (Elt Ideal) ℓ) (c : Dev nD)

/-- The new residual entry over the argument arrays. -/
abbrev res (b : Fin 8) (s : Fin 4096) (n : Fin 1024) : EReal :=
  resid (fun k => A0 m c (ix3 b s k)) (fun k => A1 m c (ix3 b s k)) (fun k => A7 m c (ix2 ⟨k.val, by omega⟩ n))
    (fun k => A7 m c (ix2 ⟨512 + k.val, by omega⟩ n)) (A2 m c (ix3 b s n)) (A3 m c (ix2 b n))

/-- The grid point whose tile holds a token, and the token's row there. -/
def ptOf (b : Fin 8) (s : Fin 4096) : Fin cfg0.N := ⟨8 * b.val + s.val / 512, lt_of_lt_of_eq (by omega) N_0.symm⟩
def rowOf (s : Fin 4096) : Fin 512 := ⟨s.val % 512, Nat.mod_lt _ (by decide)⟩

theorem bOf_ptOf (b : Fin 8) (s : Fin 4096) : bOf (ptOf b s) = b :=
  Fin.ext (by show (8 * b.val + s.val / 512) / 8 = b.val; omega)
theorem sOf_ptOf (b : Fin 8) (s : Fin 4096) : sOf (ptOf b s) (rowOf s) = s :=
  Fin.ext (by show 512 * ((8 * b.val + s.val / 512) % 8) + s.val % 512 = s.val; omega)

theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)

/-- The first result array at an index. -/
theorem arr10_apply (b : Fin 8) (s : Fin 4096) (n : Fin 1024) :
    ((dats m 0 c).arrAt 10 cfg0.N : Vec Ideal S8x4096x1024 .f32) (ix3 b s n) = res m c b s n := by
  have h := blk10 ((dats m 0 c).arrAt 10 cfg0.N) (ptOf b s) (rowOf s) n
  rw [bOf_ptOf, sOf_ptOf] at h
  rw [← h, blocks10 m c _ (flush10 _), flushed10]
  refine (out10_apply _ _ _ _ _ _ _ _ _ _ (rowOf s) n).trans ?_
  simp only [blk0, blk1, blk2, blk3, blk7, blk8, bOf_ptOf, sOf_ptOf]

/-- The second result array at an index. -/
theorem arr11_apply (b : Fin 8) (s : Fin 4096) (n : Fin 1024) :
    ((dats m 0 c).arrAt 11 cfg0.N : Vec Ideal S8x4096x1024 .bf16) (ix3 b s n)
      = rmsNorm (fun n => res m c b s n) (fun n => A6 m c (ix1 n)) (fun n => A4 m c (ix2 b n)) (fun n => A5 m c (ix2 b n)) n := by
  have h := blk11 ((dats m 0 c).arrAt 11 cfg0.N) (ptOf b s) (rowOf s) n
  rw [bOf_ptOf, sOf_ptOf] at h
  rw [← h, blocks11 m c _ (flush11 _), flushed11]
  refine (out11_apply _ _ _ _ _ _ _ _ _ _ (rowOf s) n).trans ?_
  simp only [blk0, blk1, blk2, blk3, blk4, blk5, blk6, blk7, blk8, bOf_ptOf, sOf_ptOf]

end Cert.OutProj
end
-- ==== Proof.OutProj.Reference.lean ====
/-
  What the output projection reference computes, read at an index.
-/
module

public import proofs.«01_k».proof.Proof.OutProj.Payload
public import proofs.«01_k».proof.Proof.Gen.Reference4Ideal.Read

@[expose] public section
noncomputable section

namespace Cert.OutProj
open Idealize.ShloMosaic Idealize.ShloMosaic.TcCoe
open Cert.Reference4Ideal Cert.Reference4Ideal.Value Cert.Reference4Ideal.Read
open Cert.InProj (rmsNorm)

variable (x0 x1 : Vec Ideal S8x4096x512 .f32) (x2 : Vec Ideal S8x4096x1024 .f32) (x3 x4 x5 : Vec Ideal S8x1024 .f32)
  (x6 : Vec Ideal S1024 .f32) (x7 : Vec Ideal S1024x1024 .f32) (b : Fin 8) (s : Fin 4096) (n : Fin 1024)

/-- The first half of the concatenated row, and the second. -/
theorem v0_left (k : Fin 512) : val_main_v0 (F := Ideal) x0 x1 (ix3 b s ⟨k.val, by omega⟩) = x0 (ix3 b s k) := by
  pointwise [val_main_v0]
theorem v0_right (k : Fin 512) : val_main_v0 (F := Ideal) x0 x1 (ix3 b s ⟨512 + k.val, by omega⟩) = x1 (ix3 b s k) := by
  pointwise [val_main_v0]

theorem v1_apply : val_main_v1 (F := Ideal) x0 x1 x7 (ix3 b s n)
    = ∑ k, val_main_v0 (F := Ideal) x0 x1 (ix3 b s k) * x7 (ix2 k n) := by
  pointwise [val_main_v1]

/-- The new residual entry. -/
theorem v5_apply : val_main_v5 (F := Ideal) x0 x1 x2 x3 x7 (ix3 b s n)
    = resid (fun k => x0 (ix3 b s k)) (fun k => x1 (ix3 b s k)) (fun k => x7 (ix2 ⟨k.val, by omega⟩ n))
        (fun k => x7 (ix2 ⟨512 + k.val, by omega⟩ n)) (x2 (ix3 b s n)) (x3 (ix2 b n)) := by
  have e : val_main_v5 (F := Ideal) x0 x1 x2 x3 x7 (ix3 b s n)
      = x2 (ix3 b s n) + x3 (ix2 b n) * val_main_v1 (F := Ideal) x0 x1 x7 (ix3 b s n) := by
    pointwise [val_main_v5, val_main_v4, val_main_v3, val_main_v2]
  rw [e, v1_apply, Fin.sum_univ_add (a := 512) (b := 512)]
  unfold resid
  refine congrArg (fun z => _ + _ * z) (congrArg₂ (· + ·) ?_ ?_)
  · refine Finset.sum_congr rfl fun k _ => congrArg (· * _) (v0_left x0 x1 b s k)
  · refine Finset.sum_congr rfl fun k _ => congrArg (· * _) (v0_right x0 x1 b s k)

/-- Its row normalized, scaled and shifted. -/
theorem v27_apply : val_main_v27 (F := Ideal) x0 x1 x2 x3 x4 x5 x6 x7 (ix3 b s n)
    = rmsNorm (fun n => val_main_v5 (F := Ideal) x0 x1 x2 x3 x7 (ix3 b s n)) (fun n => x6 (ix1 n))
        (fun n => x4 (ix2 b n)) (fun n => x5 (ix2 b n)) n := by
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6,
    val_main_cst, val_main_cst_0, val_main_cst_1, val_main_cst_2]
  rfl

end Cert.OutProj
end
-- ==== Proof.OutProj.Equation.lean ====
/-
  The output projection call: kernel and reference leave the same two results, and the reference's run is quiescent.
-/
module

public import proofs.«01_k».proof.Defs
public import proofs.«01_k».proof.Proof.OutProj.Array
public import proofs.«01_k».proof.Proof.OutProj.Reference
public import proofs.«01_k».proof.Proof.Gen.Kernel4Ideal
public import proofs.«01_k».proof.Proof.Gen.Reference4Ideal
public import proofs.«01_k».proof.Proof.Gen.Reference4Ideal.Run
public import Idealize.ShloMosaic.Lib.Quiescent

@[expose] public section
noncomputable section

namespace Cert.OutProj
open Idealize.ShloMosaic Idealize.ShloMosaic.TcCoe Idealize.SL.Sem

variable (m : (ℓ : Loc Cert.Kernel4Ideal.nD Cert.Kernel4Ideal.τ Cert.Kernel4Ideal.sig) → Buf (Elt Ideal) ℓ)
  (c : Dev Cert.Kernel4Ideal.nD)

/-- The kernel's result arrays. -/
def out0 : Vec Ideal Cert.Kernel4Ideal.S8x4096x1024 .f32 :=
  (Cert.Kernel4Ideal.Gen.dats m 0 c).arrAt 10 Cert.Kernel4Ideal.cfg0.N
def out1 : Vec Ideal Cert.Kernel4Ideal.S8x4096x1024 .bf16 :=
  (Cert.Kernel4Ideal.Gen.dats m 0 c).arrAt 11 Cert.Kernel4Ideal.cfg0.N

/-- They are the reference's terms over the kernel's arguments. -/
theorem result0 : out0 m c = Cert.Reference4Ideal.Read.val_main_v5 (F := Ideal)
    (A0 m c) (A1 m c) (A2 m c) (A3 m c) (A7 m c) := by
  funext i
  obtain ⟨b, s, n, rfl⟩ : ∃ (b : Fin 8) (s : Fin 4096) (n : Fin 1024), i = ix3 b s n := ⟨i 0, i 1, i 2, eq_ix3 i⟩
  refine (arr10_apply m c b s n).trans ?_
  exact (v5_apply ..).symm
theorem result1 : out1 m c = Cert.Reference4Ideal.Read.val_main_v27 (F := Ideal)
    (A0 m c) (A1 m c) (A2 m c) (A3 m c) (A4 m c) (A5 m c) (A6 m c) (A7 m c) := by
  funext i
  obtain ⟨b, s, n, rfl⟩ : ∃ (b : Fin 8) (s : Fin 4096) (n : Fin 1024), i = ix3 b s n := ⟨i 0, i 1, i 2, eq_ix3 i⟩
  refine (arr11_apply m c b s n).trans ?_
  refine Eq.trans ?_ (v27_apply ..).symm
  simp only [v5_apply]

theorem reference_frame : Cert.quiescent_Reference4Ideal := fun m g _ =>
  (θ_run _ _ _).mono (fun r h => ⟨fun c => (h c).2.2, sem_eq_zero_of_no_sems (by decide) _⟩)
    (Cert.Reference4Ideal.Value.run (F := Ideal) m g)

theorem equal : Cert.algebraic_Kernel4Ideal_Reference4Ideal := by
  intro m g m' g' _ hargs
  refine ⟨fun c => out0 m c, fun c => out1 m c, ?_, ?_⟩
  · refine (θ_run _ _ _).mono (fun r h c => ⟨(h c).1, (h c).2.1, (h c).2.2.2⟩)
      (Cert.Kernel4Ideal.Value.run_blocks (F := Ideal) m g)
  refine (θ_run _ _ _).mono (fun r h c =>
    ⟨((h c).1.trans (Cert.Reference4Ideal.Read.val_main_v5_eq (F := Ideal) ..)).trans ?_,
     ((h c).2.1.trans (Cert.Reference4Ideal.Read.val_main_v27_eq (F := Ideal) ..)).trans ?_, (h c).2.2⟩)
    (Cert.Reference4Ideal.Value.run (F := Ideal) m' g')
  · obtain ⟨h0, h1, h2, h3, h4, h5, h6, h7, h8⟩ := hargs c
    refine Eq.trans ?_ (result0 m c).symm
    rw [h0, h1, h2, h3, h7]
  · obtain ⟨h0, h1, h2, h3, h4, h5, h6, h7, h8⟩ := hargs c
    refine Eq.trans ?_ (result1 m c).symm
    rw [h0, h1, h2, h3, h4, h5, h6, h7]

end Cert.OutProj
end
-- ==== Proof.Router.Frame.lean ====
/- The frames of the routing result's programs.  The program as it is compiled and the program read at the ideal instance
   are each one text with the output projection's ideal program, so the facts and the run proved of that are theirs. -/
module

public import proofs.«01_k».proof.Defs
public import proofs.«01_k».proof.Proof.Gen.Kernel4Ideal.Frame

@[expose] public section

noncomputable section

namespace Cert.Router

open Idealize.ShloMosaic Idealize.SL.Sem

/-- The side conditions of the two programs are those of the output projection. -/
theorem facts₀ : Cert.Kernel5.Facts₀ := by
  have h : Cert.Kernel4Ideal.Facts₀ := inferInstance
  cases h
  constructor <;> assumption

instance facts : Cert.Kernel5.Facts := { toFacts₀ := facts₀ }

theorem idealFacts₀ : Cert.Kernel5Ideal.Facts₀ := by
  have h : Cert.Kernel4Ideal.Facts₀ := inferInstance
  cases h
  constructor <;> assumption

instance idealFacts : Cert.Kernel5Ideal.Facts := { toFacts₀ := idealFacts₀ }

/-- The programs' bodies are one. -/
theorem defs₀_eq : @Cert.Kernel5.defs₀ Bits _ _ = @Cert.Kernel4Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))
theorem idealDefs₀_eq : @Cert.Kernel5Ideal.defs₀ Ideal _ _ = @Cert.Kernel4Ideal.defs₀ Ideal _ _ := by
  refine congrArg Defs.onTc (funext fun l => funext fun a => ?_)
  obtain ⟨n, hn⟩ := l
  cases n with
  | zero => rfl
  | succ n => exact absurd hn (Nat.not_lt.2 (Nat.le_add_left _ _))

/-- The launches are one. -/
theorem defs_eq : @Cert.Kernel5.defs Bits _ _ = @Cert.Kernel4Ideal.defs Bits _ _ :=
  congrArg (Pipeline.defs Cert.Kernel4Ideal.pcfgs) defs₀_eq
theorem idealDefs_eq : @Cert.Kernel5Ideal.defs Ideal _ _ = @Cert.Kernel4Ideal.defs Ideal _ _ :=
  congrArg (Pipeline.defs Cert.Kernel4Ideal.pcfgs) idealDefs₀_eq

/-- The programs that prepare the operands and launch are one. -/
theorem main_eq : @Cert.Kernel5.main Bits _ _ = @Cert.Kernel4Ideal.main Bits _ _ := by
  unfold Cert.Kernel5.main Cert.Kernel4Ideal.main
  rfl
theorem idealMain_eq : @Cert.Kernel5Ideal.main Ideal _ _ = @Cert.Kernel4Ideal.main Ideal _ _ := by
  unfold Cert.Kernel5Ideal.main Cert.Kernel4Ideal.main
  rfl

/-- Each call leaves its arguments as they were and its semaphores at zero. -/
theorem frame : Cert.quiescent_Kernel5 := by
  intro m ρ _
  have h := Cert.Kernel4Ideal.Gen.frame (F := Bits) m ρ
  rw [← defs_eq, ← main_eq] at h
  exact h
theorem idealFrame : Cert.quiescent_Kernel5Ideal := by
  intro m ρ _
  have h := Cert.Kernel4Ideal.Gen.frame (F := Ideal) m ρ
  rw [← idealDefs_eq, ← idealMain_eq] at h
  exact h

end Cert.Router

end
-- ==== Proof.Real.Row.lean ====
/-
  Rows of real numbers: the normalized row and the gated residual of real entries are real, and a product taken in three
  passes over a value and its rounding error is the plain product where the entries are real.
-/
module

public import proofs.«01_k».proof.Proof.OutProj.Payload

@[expose] public section
noncomputable section

namespace Cert.Real
open Idealize.ShloMosaic
open Cert.InProj (rmsNorm)
open Cert.OutProj (resid)

/-- An extended real that is a real number. -/
def IsReal (x : EReal) : Prop := ∃ r : ℝ, x = (r : EReal)

theorem add {x y : EReal} (hx : IsReal x) (hy : IsReal y) : IsReal (x + y) := by
  obtain ⟨a, rfl⟩ := hx
  obtain ⟨b, rfl⟩ := hy
  exact ⟨a + b, (EReal.coe_add a b).symm⟩
theorem mul {x y : EReal} (hx : IsReal x) (hy : IsReal y) : IsReal (x * y) := by
  obtain ⟨a, rfl⟩ := hx
  obtain ⟨b, rfl⟩ := hy
  exact ⟨a * b, (EReal.coe_mul a b).symm⟩
theorem one : IsReal 1 := ⟨1, rfl⟩
theorem sub_self {x : EReal} (hx : IsReal x) : x - x = 0 := by
  obtain ⟨a, rfl⟩ := hx
  rw [← EReal.coe_sub, _root_.sub_self, EReal.coe_zero]
theorem sum_coe {n : Nat} (g : Fin n → ℝ) : ∑ k, (g k : EReal) = ((∑ k, g k : ℝ) : EReal) :=
  (map_sum (⟨⟨fun r : ℝ => (r : EReal), EReal.coe_zero⟩, EReal.coe_add⟩ : ℝ →+ EReal) g Finset.univ).symm
theorem sum {n : Nat} {f : Fin n → EReal} (hf : ∀ k, IsReal (f k)) : IsReal (∑ k, f k) := by
  choose g hg using hf
  exact ⟨∑ k, g k, (Finset.sum_congr rfl fun k _ => hg k).trans (sum_coe g)⟩

/-- A magnitude below infinity is a real number's. -/
theorem of_abs_lt {x : EReal} (h : max x (-x) < ⊤) : IsReal x := by
  rw [max_lt_iff] at h
  refine ⟨x.toReal, (EReal.coe_toReal h.1.ne ?_).symm⟩
  rintro rfl
  simp at h

/-- The two literals of the normalization are positive reals. -/
theorem lit1024 : Ideal.ofBits FTy.f32 0x44800000#32 = ((1024 : ℝ) : EReal) := by
  simp [Ideal.ofBits, Ideal.ieee, -EReal.coe_mul]
  norm_num
theorem litEps : ∃ e : ℝ, 0 < e ∧ Ideal.ofBits FTy.f32 0x358637BD#32 = (e : EReal) := by
  refine ⟨(8796093 : ℝ) * (2 : ℝ) ^ (-43 : ℤ), by positivity, ?_⟩
  simp [Ideal.ofBits, Ideal.ieee, -EReal.coe_mul]

/-- The reciprocal root of a mean square plus the small literal is real. -/
theorem rsqrt_mean {n : Nat} {x : Fin n → EReal} (hx : ∀ k, IsReal (x k)) :
    IsReal (Ideal.rsqrt (Ideal.div (∑ j, x j * x j) (Ideal.ofBits FTy.f32 0x44800000#32)
      + Ideal.ofBits FTy.f32 0x358637BD#32)) := by
  choose g hg using hx
  obtain ⟨e, he, hl⟩ := litEps
  have hs : ∑ j, x j * x j = ((∑ j, g j * g j : ℝ) : EReal) := by
    rw [← sum_coe]
    exact Finset.sum_congr rfl fun k _ => by rw [hg k, EReal.coe_mul]
  have hp : 0 ≤ ∑ j, g j * g j := Finset.sum_nonneg fun k _ => mul_self_nonneg (g k)
  rw [lit1024, Ideal.div_coe (by norm_num), hs, hl, ← EReal.coe_mul, ← EReal.coe_add, Ideal.rsqrt_coe,
    if_neg (not_lt.2 (by positivity)), if_neg (by positivity)]
  exact ⟨_, rfl⟩

/-- A normalized row of real entries is real. -/
theorem rmsNorm_real {x g sc sh : Fin 1024 → EReal} (hx : ∀ k, IsReal (x k)) (hg : ∀ k, IsReal (g k))
    (hc : ∀ k, IsReal (sc k)) (hh : ∀ k, IsReal (sh k)) (k : Fin 1024) : IsReal (rmsNorm x g sc sh k) :=
  add (mul (mul (mul (hx k) (rsqrt_mean hx)) (hg k)) (add one (hc k))) (hh k)

/-- A gated residual entry of real entries is real. -/
theorem resid_real {y z v w : Fin 512 → EReal} {x gt : EReal} (hy : ∀ k, IsReal (y k)) (hz : ∀ k, IsReal (z k))
    (hv : ∀ k, IsReal (v k)) (hw : ∀ k, IsReal (w k)) (hx : IsReal x) (hg : IsReal gt) : IsReal (resid y z v w x gt) :=
  add hx (mul hg (add (sum fun k => mul (hy k) (hv k)) (sum fun k => mul (hz k) (hw k))))

/-- A product in three passes over values and their rounding errors is the plain one where every entry is real. -/
theorem threePass {n : Nat} {a b : Fin n → EReal} (ha : ∀ k, IsReal (a k)) (hb : ∀ k, IsReal (b k)) :
    ∑ k, a k * b k + ∑ k, a k * (b k - b k) + ∑ k, (a k - a k) * b k = ∑ k, a k * b k := by
  have e1 : ∑ k, a k * (b k - b k) = 0 := Finset.sum_eq_zero fun k _ => by rw [sub_self (hb k), mul_zero]
  have e2 : ∑ k, (a k - a k) * b k = 0 := Finset.sum_eq_zero fun k _ => by rw [sub_self (ha k), zero_mul]
  rw [e1, e2, add_zero, add_zero]

end Cert.Real
end
-- ==== Proof.Router.Payload.lean ====
/-
  What one grid step of the output projection kernel writes as routing weights, read at an index.
-/
module

public import proofs.«01_k».proof.Proof.Real.Row

@[expose] public section
noncomputable section

namespace Cert.Router
open Idealize.ShloMosaic Idealize.ShloMosaic.TcCoe
open Cert.Kernel4Ideal Cert.Kernel4Ideal.Gen
open Cert.InProj (rmsNorm)
open Cert.OutProj (resid hz2 hz3 pay2_apply pay4_apply pay5_apply pay6_apply)
open Cert.Real (IsReal)

/-- A score's exponential, the largest score taken off. The literal is minus infinity. -/
def expOff (z : Fin 16 → EReal) (e : Fin 16) : EReal :=
  Ideal.exp (z e - Finset.fold max (Ideal.ofBits FTy.f32 0xFF800000#32) z Finset.univ)

/-- The scores' softmax. -/
def softmax (z : Fin 16 → EReal) (e : Fin 16) : EReal := Ideal.div (expOff z e) (∑ e', expOff z e')

variable (p : FVec Ideal S512x1024 .f32) (q : FVec Ideal S1x1024 .f32) (a b : FVec Ideal S512x1 .f32)
  (sc sh : Vec Ideal S1x1x1024 .f32) (w : Vec Ideal S16x1024 .f32)
  (u : FVec Ideal S16x512 .f32) (v : FVec Ideal S1x512 .f32) (r : Fin 512) (e : Fin 16) (n : Fin 1024)

/-- The row normalized, scaled and shifted, before its rounding. -/
theorem pay7_apply : k0_pay7 p q a b sc sh (ix2 r n)
    = p (ix2 r n) * Ideal.rsqrt (a (ix2 r 0) + b (ix2 r 0)) * q (ix2 0 n) * (1 + sc (ix3 0 0 n)) + sh (ix3 0 0 n) := by
  pointwise [k0_pay7]

/-- An expert's exponential: the scores are products taken in three passes. -/
theorem pay9_passes : k0_pay9 p q a b sc sh w (ix2 e r)
    = expOff (fun e => ∑ k, w (ix2 e k) * k0_pay7 p q a b sc sh (ix2 r k)
        + ∑ k, w (ix2 e k) * (k0_pay7 p q a b sc sh (ix2 r k) - k0_pay7 p q a b sc sh (ix2 r k))
        + ∑ k, (w (ix2 e k) - w (ix2 e k)) * k0_pay7 p q a b sc sh (ix2 r k)) e := by
  pointwise [k0_pay9]
  rfl

/-- Where the weights and the row are real the scores are plain products. -/
theorem pay9_apply (hw : ∀ e k, IsReal (w (ix2 e k))) (hp : ∀ k, IsReal (k0_pay7 p q a b sc sh (ix2 r k))) :
    k0_pay9 p q a b sc sh w (ix2 e r)
      = expOff (fun e => ∑ k, w (ix2 e k) * k0_pay7 p q a b sc sh (ix2 r k)) e := by
  rw [pay9_passes]
  exact congrArg (fun z => expOff z e) (funext fun e => Real.threePass (hw e) hp)

theorem pay10_apply : k0_pay10 p q a b sc sh w (ix2 0 r) = ∑ e, k0_pay9 p q a b sc sh w (ix2 e r) := by
  pointwise [k0_pay10]
theorem pay1_apply : k0_pay1 u v (ix3 0 e r) = Ideal.div (u (ix2 e r)) (v (ix2 0 r)) := by
  pointwise [k0_pay1]

/-- One grid step's third output block: the softmax of the normalized row against the router's weights. -/
theorem out12_apply (y z : Vec Ideal S1x512x512 .f32) (v w : Vec Ideal S512x1024 .bf16) (x : Vec Ideal S1x512x1024 .f32)
    (gt sc sh : Vec Ideal S1x1x1024 .f32) (g : Vec Ideal S1x1024 .f32) (x9 : Vec Ideal S16x1024 .f32)
    (hx9 : ∀ e k, IsReal (x9 (ix2 e k)))
    (hh : ∀ n, IsReal (rmsNorm (fun n => resid (fun k => y (ix3 0 r k)) (fun k => z (ix3 0 r k)) (fun k => v (ix2 k n))
      (fun k => w (ix2 k n)) (x (ix3 0 r n)) (gt (ix3 0 0 n))) (fun n => g (ix2 0 n)) (fun n => sc (ix3 0 0 n))
      (fun n => sh (ix3 0 0 n)) n)) :
    out0_12 y z x gt sc sh g v w x9 (ix3 0 e r)
      = softmax (fun e => ∑ n, x9 (ix2 e n) * rmsNorm (fun n => resid (fun k => y (ix3 0 r k)) (fun k => z (ix3 0 r k))
          (fun k => v (ix2 k n)) (fun k => w (ix2 k n)) (x (ix3 0 r n)) (gt (ix3 0 0 n))) (fun n => g (ix2 0 n))
          (fun n => sc (ix3 0 0 n)) (fun n => sh (ix3 0 0 n)) n) e := by
  unfold out0_12 k0_pay14 k0_pay13 k0_pay12 k0_pay11
  rw [View.canon_unit_zero hz3]
  repeat first | rw [View.ld_unit_zero hz3] | rw [View.ld_unit_zero hz2]
  have h7 : ∀ n, k0_pay7 (k0_pay2 y v z w x gt) (k0_pay4 g) (k0_pay5 y v z w x gt) (k0_pay6 (F := Ideal)) sc sh (ix2 r n)
      = rmsNorm (fun n => resid (fun k => y (ix3 0 r k)) (fun k => z (ix3 0 r k)) (fun k => v (ix2 k n))
          (fun k => w (ix2 k n)) (x (ix3 0 r n)) (gt (ix3 0 0 n))) (fun n => g (ix2 0 n)) (fun n => sc (ix3 0 0 n))
          (fun n => sh (ix3 0 0 n)) n := fun n => by
    simp only [pay7_apply, pay4_apply, pay5_apply, pay6_apply, pay2_apply]
    rfl
  have h9 := fun e => pay9_apply (k0_pay2 y v z w x gt) (k0_pay4 g) (k0_pay5 y v z w x gt) (k0_pay6 (F := Ideal)) sc sh x9
    r e hx9 (fun k => by rw [h7]; exact hh k)
  simp only [h7] at h9
  rw [pay1_apply, pay10_apply]
  simp only [h9]
  rfl

end Cert.Router
end
-- ==== Proof.Router.Array.lean ====
/-
  What the output projection kernel's third result array holds, read at an index over real argument arrays.
-/
module

public import proofs.«01_k».proof.Proof.Router.Payload
public import proofs.«01_k».proof.Proof.OutProj.Array

@[expose] public section
noncomputable section

namespace Cert.Router
open Idealize.ShloMosaic Idealize.ShloMosaic.TcCoe Idealize.SL.Sem
open Cert.Kernel4Ideal Cert.Kernel4Ideal.Gen Cert.Kernel4Ideal.Value
open Cert.InProj (rmsNorm)
open Cert.OutProj (A0 A1 A2 A3 A4 A5 A6 A7 res bOf sOf ptOf rowOf bOf_ptOf sOf_ptOf idx resid)
open Cert.OutProj (blk0 blk1 blk2 blk3 blk4 blk5 blk6 blk7 blk8)
open Cert.Real (IsReal)

variable (m : (ℓ : Loc nD τ sig) → Buf (Elt Ideal) ℓ) (c : Dev nD)

/-- The router's weights. -/
abbrev A8 : Vec Ideal S1024x16 .f32 := m ((c : Thread nD τ).loc main_arg8)

/-- The index maps of the router's weights and of the third result. -/
theorem idx' : ∀ t : Fin cfg0.N, win0_9.index t = ![0, 0] ∧ win0_12.index t = ![t.val / 8, 0, t.val % 8] :=
  (by decide +kernel : ∀ t : Fin grid0.N, _)

theorem V_v4 : V m c main_v4 = transpose S16x1024 [1, 0] (A8 m c) transposes_S1024x16_S16x1024_1_0 := by
  simp only [V, hostOps0]
  after_results_simp

/-- The router's weights' block, one row an expert. -/
theorem rd9 (A : Vec Ideal S16x1024 .f32) (t : Fin cfg0.N) (e : Fin 16) (n : Fin 1024) :
    (((cfg0.win 9).blk t).view.read (Elt Ideal) A : Vec Ideal S16x1024 .f32) (ix2 e n) = A (ix2 e n) := by
  blk_ext! [idx' t]
theorem blk9 (t : Fin cfg0.N) (e : Fin 16) (n : Fin 1024) :
    (iblk m c 9 t : Vec Ideal S16x1024 .f32) (ix2 e n) = A8 m c (ix2 n e) := by
  refine (rd9 (V m c main_v4) t e n).trans ?_
  rw [V_v4]
  pointwise []

/-- The third result's block read back from any array. -/
theorem blk12 (A : Vec Ideal S8x16x4096 .f32) (t : Fin cfg0.N) (e : Fin 16) (r : Fin 512) :
    (((cfg0.win 12).blk t).view.read (Elt Ideal) A : Vec Ideal S1x16x512 .f32) (ix3 0 e r)
      = A (ix3 (bOf t) e (sOf t r)) := by
  blk_ext! [idx' t, bOf, sOf]

theorem flush12 : ∀ t : Fin cfg0.N, (cfg0.win 12).flush t = true :=
  (by decide +kernel : ∀ t : Fin grid0.N, win0_12.flush t = true)

/-- The argument arrays hold real numbers. -/
structure Reals : Prop where
  r0 : ∀ i, IsReal (A0 m c i)
  r1 : ∀ i, IsReal (A1 m c i)
  r2 : ∀ i, IsReal (A2 m c i)
  r3 : ∀ i, IsReal (A3 m c i)
  r4 : ∀ i, IsReal (A4 m c i)
  r5 : ∀ i, IsReal (A5 m c i)
  r6 : ∀ i, IsReal (A6 m c i)
  r7 : ∀ i, IsReal (A7 m c i)
  r8 : ∀ i, IsReal (A8 m c i)

/-- The normalized row over the argument arrays, and that it is real. -/
abbrev row (b : Fin 8) (s : Fin 4096) (n : Fin 1024) : EReal :=
  rmsNorm (fun n => res m c b s n) (fun n => A6 m c (ix1 n)) (fun n => A4 m c (ix2 b n)) (fun n => A5 m c (ix2 b n)) n
theorem row_real (h : Reals m c) (b : Fin 8) (s : Fin 4096) (n : Fin 1024) : IsReal (row m c b s n) :=
  Real.rmsNorm_real (fun _ => Real.resid_real (fun _ => h.r0 _) (fun _ => h.r1 _) (fun _ => h.r7 _) (fun _ => h.r7 _)
    (h.r2 _) (h.r3 _)) (fun _ => h.r6 _) (fun _ => h.r4 _) (fun _ => h.r5 _) n

/-- The third result array at an index. -/
theorem arr12_apply (h : Reals m c) (b : Fin 8) (s : Fin 4096) (e : Fin 16) :
    ((dats m 0 c).arrAt 12 cfg0.N : Vec Ideal S8x16x4096 .f32) (ix3 b e s)
      = softmax (fun e => ∑ n, A8 m c (ix2 n e) * row m c b s n) e := by
  have k := blk12 ((dats m 0 c).arrAt 12 cfg0.N) (ptOf b s) e (rowOf s)
  rw [bOf_ptOf, sOf_ptOf] at k
  rw [← k, blocks12 m c _ (flush12 _), flushed12]
  refine (out12_apply (rowOf s) e _ _ _ _ _ _ _ _ _ _ (fun e k => ?_) (fun n => ?_)).trans ?_
  · simp only [blk9]
    exact h.r8 _
  · simp only [blk0, blk1, blk2, blk3, blk4, blk5, blk6, blk7, blk8, bOf_ptOf, sOf_ptOf]
    exact row_real m c h b s n
  simp only [blk0, blk1, blk2, blk3, blk4, blk5, blk6, blk7, blk8, blk9, bOf_ptOf, sOf_ptOf]

end Cert.Router
end
-- ==== Proof.Router.Finite.lean ====
/-
  The routing claim's precondition: what it says of the argument arrays.
-/
module

public import proofs.«01_k».proof.Defs
public import proofs.«01_k».proof.Proof.Router.Array
public import Idealize.ShloMosaic.Lib.Pointwise

@[expose] public section
noncomputable section

namespace Cert.Router
open Idealize.ShloMosaic Idealize.ShloMosaic.TcCoe Idealize.SL.Sem
open Cert.Real (IsReal)

/-- The shapes of the precondition's broadcasts. -/
instance preFacts : Cert.Pre_finite5.Facts := by
  constructor <;> decide

theorem inf : Ideal.ofBits .f32 0x7F800000#32 = ⊤ := by simp [Ideal.ofBits, Ideal.ieee]

/-- A comparison of a magnitude with infinity that says «below» is of a real number. -/
theorem real_of_below {x : EReal} (h : Ideal.cmp .olt (max x (-x)) (Ideal.ofBits .f32 0x7F800000#32) = 1#1) : IsReal x := by
  rw [inf] at h
  refine Real.of_abs_lt ?_
  by_contra hn
  simp [Ideal.cmp, hn] at h

/-- An array whose magnitudes are all below infinity is of real numbers. -/
theorem reals_of_below {s : Shape} (hb : Cert.Pre_finite5.S_.BroadcastsInDim s ![]) (x : FVec Ideal s .f32)
    (h : cmpf .olt (Host.absf x) (broadcastInDim s ![] hb (constant Cert.Pre_finite5.S_ .f32 0x7F800000#32))
      = fun _ => 1#1) (i : s.Idx) : IsReal (x i) :=
  real_of_below (congrFun h i)

/-- The precondition says that the arrays hold real numbers. -/
theorem reals (m : (ℓ : Loc Cert.Kernel4Ideal.nD Cert.Kernel4Ideal.τ Cert.Kernel4Ideal.sig) → Buf (Elt Ideal) ℓ)
    (h : Cert.Pre_Kernel5Ideal_finite5 m) (c : Dev Cert.Kernel4Ideal.nD) : Reals m c := by
  obtain ⟨h0, h1, h2, h3, h4, h5, h6, h7, h8⟩ := h c
  exact ⟨reals_of_below _ _ h0, reals_of_below _ _ h1, reals_of_below _ _ h2, reals_of_below _ _ h3, reals_of_below _ _ h4,
    reals_of_below _ _ h5, reals_of_below _ _ h6, reals_of_below _ _ h7, reals_of_below _ _ h8⟩

end Cert.Router
end
-- ==== Proof.Router.Reference.lean ====
/-
  What the routing reference computes, read at an index.
-/
module

public import proofs.«01_k».proof.Proof.Router.Payload
public import proofs.«01_k».proof.Proof.OutProj.Reference
public import proofs.«01_k».proof.Proof.Gen.Reference5Ideal.Read

@[expose] public section
noncomputable section

namespace Cert.Router
open Idealize.ShloMosaic Idealize.ShloMosaic.TcCoe
open Cert.Reference5Ideal Cert.Reference5Ideal.Value Cert.Reference5Ideal.Read
open Cert.InProj (rmsNorm)
open Cert.OutProj (resid)

variable (x0 x1 : Vec Ideal S8x4096x512 .f32) (x2 : Vec Ideal S8x4096x1024 .f32) (x3 x4 x5 : Vec Ideal S8x1024 .f32)
  (x6 : Vec Ideal S1024 .f32) (x7 : Vec Ideal S1024x1024 .f32) (x8 : Vec Ideal S1024x16 .f32)
  (b : Fin 8) (s : Fin 4096) (n : Fin 1024) (e : Fin 16)

/-- The normalized row is the output projection reference's, before its rounding. -/
theorem v5_eq : val_main_v5 (F := Ideal) x0 x1 x2 x3 x7
    = Cert.Reference4Ideal.Read.val_main_v5 (F := Ideal) x0 x1 x2 x3 x7 := rfl
theorem v26_apply : val_main_v26 (F := Ideal) x0 x1 x2 x3 x4 x5 x6 x7 (ix3 b s n)
    = rmsNorm (fun n => val_main_v5 (F := Ideal) x0 x1 x2 x3 x7 (ix3 b s n)) (fun n => x6 (ix1 n))
        (fun n => x4 (ix2 b n)) (fun n => x5 (ix2 b n)) n := by
  pointwise [val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6,
    val_main_cst, val_main_cst_0, val_main_cst_1, val_main_cst_2]
  rfl

/-- The scores: the normalized row against the router's weights. -/
theorem v27_apply : val_main_v27 (F := Ideal) x0 x1 x2 x3 x4 x5 x6 x7 x8 (ix3 b s e)
    = ∑ n, val_main_v26 (F := Ideal) x0 x1 x2 x3 x4 x5 x6 x7 (ix3 b s n) * x8 (ix2 n e) := by
  pointwise [val_main_v27]

/-- Their exponentials, the largest taken off. -/
theorem v34_apply : val_main_v34 (F := Ideal) x0 x1 x2 x3 x4 x5 x6 x7 x8 (ix3 b s e)
    = expOff (fun e => val_main_v27 (F := Ideal) x0 x1 x2 x3 x4 x5 x6 x7 x8 (ix3 b s e)) e := by
  pointwise [val_main_v34, val_main_v33, val_main_v32, val_main_v31, val_main_v30, val_main_v29, val_main_v28,
    val_main_cst_3, val_main_cst_4]
  rw [max_eq_right ((Finset.le_fold_max _).2 (Or.inl le_rfl))]
  rfl

/-- The weights, one row an expert. -/
theorem v39_apply : val_main_v39 (F := Ideal) x0 x1 x2 x3 x4 x5 x6 x7 x8 (ix3 b e s)
    = Ideal.div (val_main_v34 (F := Ideal) x0 x1 x2 x3 x4 x5 x6 x7 x8 (ix3 b s e))
        (∑ e, val_main_v34 (F := Ideal) x0 x1 x2 x3 x4 x5 x6 x7 x8 (ix3 b s e)) := by
  pointwise [val_main_v39, val_main_v38, val_main_v37, val_main_v36, val_main_v35, val_main_cst_5]

end Cert.Router
end
-- ==== Proof.Router.Equation.lean ====
/-
  The routing result: kernel and reference leave the same array over finite arguments, and the reference's run is
  quiescent.
-/
module

public import proofs.«01_k».proof.Defs
public import proofs.«01_k».proof.Proof.Router.Frame
public import proofs.«01_k».proof.Proof.Router.Finite
public import proofs.«01_k».proof.Proof.Router.Reference
public import proofs.«01_k».proof.Proof.Gen.Kernel4Ideal
public import proofs.«01_k».proof.Proof.Gen.Reference5Ideal
public import proofs.«01_k».proof.Proof.Gen.Reference5Ideal.Run
public import Idealize.ShloMosaic.Lib.Quiescent

@[expose] public section
noncomputable section

namespace Cert.Router
open Idealize.ShloMosaic Idealize.ShloMosaic.TcCoe Idealize.SL.Sem
open Cert.OutProj (A0 A1 A2 A3 A4 A5 A6 A7 v5_apply)

variable (m : (ℓ : Loc Cert.Kernel4Ideal.nD Cert.Kernel4Ideal.τ Cert.Kernel4Ideal.sig) → Buf (Elt Ideal) ℓ)
  (c : Dev Cert.Kernel4Ideal.nD)

/-- The kernel's result array. -/
def out : Vec Ideal Cert.Kernel4Ideal.S8x16x4096 .f32 :=
  (Cert.Kernel4Ideal.Gen.dats m 0 c).arrAt 12 Cert.Kernel4Ideal.cfg0.N

/-- It is the reference's term over the kernel's arguments. -/
theorem result (h : Reals m c) : out m c = Cert.Reference5Ideal.Read.val_main_v39 (F := Ideal)
    (A0 m c) (A1 m c) (A2 m c) (A3 m c) (A4 m c) (A5 m c) (A6 m c) (A7 m c) (A8 m c) := by
  funext i
  obtain ⟨b, e, s, rfl⟩ : ∃ (b : Fin 8) (e : Fin 16) (s : Fin 4096), i = ix3 b e s := ⟨i 0, i 1, i 2, eq_ix3 i⟩
  refine (arr12_apply m c h b s e).trans ?_
  refine Eq.trans ?_ (v39_apply ..).symm
  simp only [v34_apply, v27_apply, v26_apply, v5_eq, v5_apply]
  refine (congrArg (fun z => softmax z e) (funext fun e => ?_))
  exact Finset.sum_congr rfl fun n _ => mul_comm _ _

/-- So it is the reference's term over arrays equal to the kernel's arguments. -/
theorem value (h : Reals m c) {x0 x1 : Vec Ideal Cert.Kernel4Ideal.S8x4096x512 .f32}
    {x2 : Vec Ideal Cert.Kernel4Ideal.S8x4096x1024 .f32} {x3 x4 x5 : Vec Ideal Cert.Kernel4Ideal.S8x1024 .f32}
    {x6 : Vec Ideal Cert.Kernel4Ideal.S1024 .f32} {x7 : Vec Ideal Cert.Kernel4Ideal.S1024x1024 .f32}
    {x8 : Vec Ideal Cert.Kernel4Ideal.S1024x16 .f32}
    (h0 : x0 = A0 m c) (h1 : x1 = A1 m c) (h2 : x2 = A2 m c) (h3 : x3 = A3 m c) (h4 : x4 = A4 m c) (h5 : x5 = A5 m c)
    (h6 : x6 = A6 m c) (h7 : x7 = A7 m c) (h8 : x8 = A8 m c) :
    Cert.Reference5Ideal.Read.val_main_v39 (F := Ideal) x0 x1 x2 x3 x4 x5 x6 x7 x8 = out m c := by
  rw [result m c h, h0, h1, h2, h3, h4, h5, h6, h7, h8]

/-- The kernel's run, with the one result named. -/
theorem kernel_run (g : Dev Cert.Kernel4Ideal.nD → PrngReg) :
    θ_run (Cert.Kernel4Ideal.defs (F := Ideal)) (onTc (τ := Cert.Kernel4Ideal.τ) (Cert.Kernel4Ideal.main (F := Ideal)))
      ⟨m, fun _ => 0, g⟩ fun r => ∀ c : Dev Cert.Kernel4Ideal.nD,
      r.2.mem ((c.tc : Thread Cert.Kernel4Ideal.nD Cert.Kernel4Ideal.τ).loc Cert.Kernel4Ideal.main_v9_2) = out m c
      ∧ r.2.mem ((c.tc : Thread Cert.Kernel4Ideal.nD Cert.Kernel4Ideal.τ).loc Cert.Kernel4Ideal.main_arg0)
        = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1)
        = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2)
        = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3)
        = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4)
        = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5)
        = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6)
        = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7)
        = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8)
        = m ((c.tc : Thread Cert.Kernel4Ideal.nD Cert.Kernel4Ideal.τ).loc Cert.Kernel4Ideal.main_arg8) :=
  (θ_run _ _ _).mono (fun _ h c => ⟨(h c).2.2.1, (h c).2.2.2⟩) (Cert.Kernel4Ideal.Value.run_blocks (F := Ideal) m g)

theorem reference_frame : Cert.quiescent_Reference5Ideal := fun m g _ =>
  (θ_run _ _ _).mono (fun r h => ⟨fun c => (h c).2, sem_eq_zero_of_no_sems (by decide) _⟩)
    (Cert.Reference5Ideal.Value.run (F := Ideal) m g)

theorem equal : Cert.algebraic_Kernel5Ideal_Reference5Ideal_pre_finite5 := by
  intro m g m' g' hpre hargs
  refine ⟨fun c => out m c, ?_, ?_⟩
  · have h := kernel_run m g
    rw [← idealDefs_eq, ← idealMain_eq] at h
    exact h
  refine (θ_run _ _ _).mono (fun r h c =>
    ⟨((h c).1.trans (Cert.Reference5Ideal.Read.val_main_v39_eq (F := Ideal) ..)).trans ?_, (h c).2⟩)
    (Cert.Reference5Ideal.Value.run (F := Ideal) m' g')
  obtain ⟨h0, h1, h2, h3, h4, h5, h6, h7, h8⟩ := hargs c
  exact value m c (reals m hpre c) h0 h1 h2 h3 h4 h5 h6 h7 h8

end Cert.Router
end
-- ==== Proof.Gates.Frame.lean ====
/- The frames of the gates' programs.  The program as it is compiled and the program read at the ideal instance
   are each one text with the input projection's ideal program, so the facts and the run proved of that are theirs. -/
module

public import proofs.«01_k».proof.Defs
public import proofs.«01_k».proof.Proof.Gen.Kernel3Ideal.Frame

@[expose] public section

noncomputable section

namespace Cert.Gates

open Idealize.ShloMosaic Idealize.SL.Sem

/-- The side conditions of the two programs are those of the input projection. -/
theorem facts₀ : Cert.Kernel6.Facts₀ := by
  have h : Cert.Kernel3Ideal.Facts₀ := inferInstance
  cases h
  constructor <;> assumption

instance facts : Cert.Kernel6.Facts := { toFacts₀ := facts₀ }

theorem idealFacts₀ : Cert.Kernel6Ideal.Facts₀ := by
  have h : Cert.Kernel3Ideal.Facts₀ := inferInstance
  cases h
  constructor <;> assumption

instance idealFacts : Cert.Kernel6Ideal.Facts := { toFacts₀ := idealFacts₀ }

/-- The programs' bodies are one. -/
theorem defs₀_eq : @Cert.Kernel6.defs₀ Bits _ _ = @Cert.Kernel3Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))
theorem idealDefs₀_eq : @Cert.Kernel6Ideal.defs₀ Ideal _ _ = @Cert.Kernel3Ideal.defs₀ Ideal _ _ := by
  refine congrArg Defs.onTc (funext fun l => funext fun a => ?_)
  obtain ⟨n, hn⟩ := l
  cases n with
  | zero => rfl
  | succ n => exact absurd hn (Nat.not_lt.2 (Nat.le_add_left _ _))

/-- The launches are one. -/
theorem defs_eq : @Cert.Kernel6.defs Bits _ _ = @Cert.Kernel3Ideal.defs Bits _ _ :=
  congrArg (Pipeline.defs Cert.Kernel3Ideal.pcfgs) defs₀_eq
theorem idealDefs_eq : @Cert.Kernel6Ideal.defs Ideal _ _ = @Cert.Kernel3Ideal.defs Ideal _ _ :=
  congrArg (Pipeline.defs Cert.Kernel3Ideal.pcfgs) idealDefs₀_eq

/-- The programs that prepare the operands and launch are one. -/
theorem main_eq : @Cert.Kernel6.main Bits _ _ = @Cert.Kernel3Ideal.main Bits _ _ := by
  unfold Cert.Kernel6.main Cert.Kernel3Ideal.main
  rfl
theorem idealMain_eq : @Cert.Kernel6Ideal.main Ideal _ _ = @Cert.Kernel3Ideal.main Ideal _ _ := by
  unfold Cert.Kernel6Ideal.main Cert.Kernel3Ideal.main
  rfl

/-- Each call leaves its arguments as they were and its semaphores at zero. -/
theorem frame : Cert.quiescent_Kernel6 := by
  intro m ρ _
  have h := Cert.Kernel3Ideal.Gen.frame (F := Bits) m ρ
  rw [← defs_eq, ← main_eq] at h
  exact h
theorem idealFrame : Cert.quiescent_Kernel6Ideal := by
  intro m ρ _
  have h := Cert.Kernel3Ideal.Gen.frame (F := Ideal) m ρ
  rw [← idealDefs_eq, ← idealMain_eq] at h
  exact h

end Cert.Gates

end
-- ==== Proof.Gates.Payload.lean ====
/-
  What one grid step of the input projection kernel writes as gates, read at an index.
-/
module

public import proofs.«01_k».proof.Proof.InProj.Array
public import proofs.«01_k».proof.Proof.Real.Row

@[expose] public section
noncomputable section

namespace Cert.Gates
open Idealize.ShloMosaic Idealize.ShloMosaic.TcCoe
open Cert.Kernel3Ideal Cert.Kernel3Ideal.Gen
open Cert.InProj (rmsNorm pay4_apply hz2 hz3)
open Cert.Real (IsReal)

variable (p : FVec Ideal S512x1024 .f32) (w : Vec Ideal S32x1024 .f32) (b : Vec Ideal S32x1 .f32)
  (r : Fin 512) (j : Fin 32)

/-- A gate row: the products are taken in three passes. -/
theorem pay3_passes : k0_pay3 p w b (ix3 0 j r)
    = ∑ k, w (ix2 j k) * p (ix2 r k) + ∑ k, w (ix2 j k) * (p (ix2 r k) - p (ix2 r k))
      + ∑ k, (w (ix2 j k) - w (ix2 j k)) * p (ix2 r k) + b (ix2 j 0) := by
  pointwise [k0_pay3]

/-- Where the weights and the row are real they are plain products. -/
theorem pay3_apply (hw : ∀ k, IsReal (w (ix2 j k))) (hp : ∀ k, IsReal (p (ix2 r k))) :
    k0_pay3 p w b (ix3 0 j r) = ∑ k, w (ix2 j k) * p (ix2 r k) + b (ix2 j 0) := by
  rw [pay3_passes, Real.threePass hw hp]

/-- One grid step's third output block: the normalized rows against the gates' weights, plus the bias. -/
theorem out12_apply (x0 : Vec Ideal S1x512x1024 .f32) (x1 x2 : Vec Ideal S1x1x1024 .f32) (x3 : Vec Ideal S1x1024 .f32)
    (x4 : Vec Ideal S1024x2048 .bf16) (x5 : Vec Ideal S1x2048 .f32) (x6 : Vec Ideal S1024x1536 .bf16)
    (x7 : Vec Ideal S1x1536 .f32) (x8 : Vec Ideal S32x1024 .f32) (x9 : Vec Ideal S32x1 .f32)
    (hw : ∀ k, IsReal (x8 (ix2 j k)))
    (hp : ∀ k, IsReal (rmsNorm (fun k => x0 (ix3 0 r k)) (fun k => x3 (ix2 0 k)) (fun k => x1 (ix3 0 0 k))
      (fun k => x2 (ix3 0 0 k)) k)) :
    out0_12 x0 x1 x2 x3 x4 x5 x6 x7 x8 x9 (ix3 0 j r)
      = ∑ k, x8 (ix2 j k) * rmsNorm (fun k => x0 (ix3 0 r k)) (fun k => x3 (ix2 0 k)) (fun k => x1 (ix3 0 0 k))
          (fun k => x2 (ix3 0 0 k)) k + x9 (ix2 j 0) := by
  unfold out0_12
  rw [View.canon_unit_zero hz3]
  repeat first | rw [View.ld_unit_zero hz3] | rw [View.ld_unit_zero hz2]
  rw [pay3_apply _ _ _ _ _ hw (fun k => by rw [pay4_apply]; exact hp k)]
  simp only [pay4_apply]

end Cert.Gates
end
-- ==== Proof.Gates.Array.lean ====
/-
  What the input projection kernel's third result array holds, read at an index over real argument arrays.
-/
module

public import proofs.«01_k».proof.Proof.Gates.Payload

@[expose] public section
noncomputable section

namespace Cert.Gates
open Idealize.ShloMosaic Idealize.ShloMosaic.TcCoe Idealize.SL.Sem
open Cert.Kernel3Ideal Cert.Kernel3Ideal.Gen Cert.Kernel3Ideal.Value
open Cert.InProj (A0 A1 A2 A3 A4 A5 tok bOf sOf ptOf rowOf bOf_ptOf sOf_ptOf)
open Cert.InProj (blk0 blk1 blk2 blk3)
open Cert.Real (IsReal)

/-- The gates' weights as the kernel reads them: eight rows a head, the last four of them zero. -/
def gateRows (w : Vec Ideal S1024x3600 .f32) : Vec Ideal S32x1024 .f32 :=
  shapeCast S32x1024 (pad S4x8x1024 ![0, 0, 0] ![0, 4, 0] ![0, 0, 0]
    (transpose S4x4x1024 [1, 0, 2] (shapeCast S4x4x1024 (transpose S16x1024 [1, 0]
      (extractStridedSlice S1024x16 ![0, 2048] w slices_S1024x3600_S1024x16_0_2048) transposes_S1024x16_S16x1024_1_0)
      shapeCasts_S16x1024_S4x4x1024) transposes_S4x4x1024_S4x4x1024_1_0_2)
    (sitofp (F := Ideal) FTy.f32 (constantI S_ 32 0#32)) pads_S4x4x1024_S4x8x1024_000_040_000 h_S_)
    shapeCasts_S4x8x1024_S32x1024

/-- The gates' bias likewise. -/
def gateBias (b : Vec Ideal S3600 .f32) : Vec Ideal S32x1 .f32 :=
  shapeCast S32x1 (pad S4x8x1 ![0, 0, 0] ![0, 4, 0] ![0, 0, 0]
    (transpose S4x4x1 [1, 0, 2] (shapeCast S4x4x1 (shapeCast S16x1
      (extractStridedSlice S16 ![2048] b slices_S3600_S16_2048) shapeCasts_S16_S16x1)
      shapeCasts_S16x1_S4x4x1) transposes_S4x4x1_S4x4x1_1_0_2)
    (sitofp (F := Ideal) FTy.f32 (constantI S_ 32 0#32)) pads_S4x4x1_S4x8x1_000_040_000 h_S_) shapeCasts_S4x8x1_S32x1

theorem sitofp_zero : FloatOps.sitofp (F := Ideal) FTy.f32 0#32 = (0 : EReal) := by
  show (((0#32 : BitVec 32).toInt : ℝ) : EReal) = 0
  simp

/-- The projection's column a gate row reads, where it reads one: gate `j % 8` of head `j / 8`. -/
def col (j : Fin 32) (h : j.val / 8 < 4 ∧ j.val % 8 < 4) : Fin 3600 := ⟨2048 + (j.val % 8 * 4 + j.val / 8), by omega⟩

theorem gateRows_apply (w : Vec Ideal S1024x3600 .f32) (j : Fin 32) (k : Fin 1024) : gateRows w (ix2 j k)
    = if h : j.val / 8 < 4 ∧ j.val % 8 < 4 then w (ix2 k (col j h)) else (0 : EReal) := by
  rw [← sitofp_zero]
  pointwise [gateRows]
  rfl
theorem gateBias_apply (b : Vec Ideal S3600 .f32) (j : Fin 32) : gateBias b (ix2 j 0)
    = if h : j.val / 8 < 4 ∧ j.val % 8 < 4 then b (ix1 (col j h)) else (0 : EReal) := by
  rw [← sitofp_zero]
  pointwise [gateBias]
  rfl

variable (m : (ℓ : Loc nD τ sig) → Buf (Elt Ideal) ℓ) (c : Dev nD)

/-- What the host operations before the call leave in the two arrays. -/
theorem V_v13 : V m c main_v13 = gateRows (A4 m c) := by
  simp only [V, hostOps0, hostOps0_1, hostOps0_2, hostOps0_3, hostOps0_4, List.flatten_cons, List.flatten_nil,
    List.append_nil, List.cons_append, List.nil_append]
  after_results_simp
  rfl
theorem V_v19 : V m c main_v19 = gateBias (A5 m c) := by
  simp only [V, hostOps0, hostOps0_1, hostOps0_2, hostOps0_3, hostOps0_4, List.flatten_cons, List.flatten_nil,
    List.append_nil, List.cons_append, List.nil_append]
  after_results_simp
  rfl

/-- The index maps of the gates' weights and bias and of the third result. -/
theorem idx' : ∀ t : Fin cfg0.N, win0_8.index t = ![0, 0] ∧ win0_9.index t = ![0, 0]
    ∧ win0_12.index t = ![t.val / 8, 0, t.val % 8] :=
  (by decide +kernel : ∀ t : Fin grid0.N, _)

theorem rd8 (A : Vec Ideal S32x1024 .f32) (t : Fin cfg0.N) (j : Fin 32) (k : Fin 1024) :
    (((cfg0.win 8).blk t).view.read (Elt Ideal) A : Vec Ideal S32x1024 .f32) (ix2 j k) = A (ix2 j k) := by
  blk_ext! [idx' t]
theorem blk8 (t : Fin cfg0.N) (j : Fin 32) (k : Fin 1024) :
    (iblk m c 8 t : Vec Ideal S32x1024 .f32) (ix2 j k) = gateRows (A4 m c) (ix2 j k) := by
  refine (rd8 (V m c main_v13) t j k).trans ?_
  rw [V_v13]
theorem rd9 (A : Vec Ideal S32x1 .f32) (t : Fin cfg0.N) (j : Fin 32) :
    (((cfg0.win 9).blk t).view.read (Elt Ideal) A : Vec Ideal S32x1 .f32) (ix2 j 0) = A (ix2 j 0) := by
  blk_ext! [idx' t]
theorem blk9 (t : Fin cfg0.N) (j : Fin 32) :
    (iblk m c 9 t : Vec Ideal S32x1 .f32) (ix2 j 0) = gateBias (A5 m c) (ix2 j 0) := by
  refine (rd9 (V m c main_v19) t j).trans ?_
  rw [V_v19]

/-- The third result's block read back from any array. -/
theorem blk12 (A : Vec Ideal S8x32x4096 .f32) (t : Fin cfg0.N) (j : Fin 32) (r : Fin 512) :
    (((cfg0.win 12).blk t).view.read (Elt Ideal) A : Vec Ideal S1x32x512 .f32) (ix3 0 j r)
      = A (ix3 (bOf t) j (sOf t r)) := by
  blk_ext! [idx' t, bOf, sOf]

theorem flush12 : ∀ t : Fin cfg0.N, (cfg0.win 12).flush t = true :=
  (by decide +kernel : ∀ t : Fin grid0.N, win0_12.flush t = true)

/-- The argument arrays, the bias aside, hold real numbers. -/
structure Reals : Prop where
  r0 : ∀ i, IsReal (A0 m c i)
  r1 : ∀ i, IsReal (A1 m c i)
  r2 : ∀ i, IsReal (A2 m c i)
  r3 : ∀ i, IsReal (A3 m c i)
  r4 : ∀ i, IsReal (A4 m c i)

theorem tok_real (h : Reals m c) (b : Fin 8) (s : Fin 4096) (k : Fin 1024) : IsReal (tok m c b s k) :=
  Real.rmsNorm_real (fun _ => h.r0 _) (fun _ => h.r3 _) (fun _ => h.r1 _) (fun _ => h.r2 _) k
theorem gateRows_real (h : Reals m c) (j : Fin 32) (k : Fin 1024) : IsReal (gateRows (A4 m c) (ix2 j k)) := by
  rw [gateRows_apply]
  split
  · exact h.r4 _
  · exact ⟨0, rfl⟩

/-- The third result array at an index. -/
theorem arr12_apply (h : Reals m c) (b : Fin 8) (s : Fin 4096) (j : Fin 32) :
    ((dats m 0 c).arrAt 12 cfg0.N : Vec Ideal S8x32x4096 .f32) (ix3 b j s)
      = ∑ k, gateRows (A4 m c) (ix2 j k) * tok m c b s k + gateBias (A5 m c) (ix2 j 0) := by
  have l := blk12 ((dats m 0 c).arrAt 12 cfg0.N) (ptOf b s) j (rowOf s)
  rw [bOf_ptOf, sOf_ptOf] at l
  rw [← l, blocks12 m c _ (flush12 _), flushed12]
  refine (out12_apply (rowOf s) j _ _ _ _ _ _ _ _ _ _ (fun k => ?_) (fun k => ?_)).trans ?_
  · rw [blk8]
    exact gateRows_real m c h j k
  · simp only [blk0, blk1, blk2, blk3, bOf_ptOf, sOf_ptOf]
    exact tok_real m c h b s k
  simp only [blk0, blk1, blk2, blk3, blk8, blk9, bOf_ptOf, sOf_ptOf]

/-- A gate's row: its projection column against the normalized token, plus its bias; zero in the rows that hold none. -/
theorem arr12_gate (h : Reals m c) (b : Fin 8) (s : Fin 4096) (j : Fin 32) :
    ((dats m 0 c).arrAt 12 cfg0.N : Vec Ideal S8x32x4096 .f32) (ix3 b j s)
      = if h : j.val / 8 < 4 ∧ j.val % 8 < 4
        then ∑ k, tok m c b s k * A4 m c (ix2 k (col j h)) + A5 m c (ix1 (col j h)) else (0 : EReal) := by
  rw [arr12_apply m c h]
  simp only [gateRows_apply, gateBias_apply]
  split
  · exact congrArg (· + _) (Finset.sum_congr rfl fun k _ => mul_comm _ _)
  · simp

end Cert.Gates
end
-- ==== Proof.Gates.Finite.lean ====
/-
  The gates' precondition: what it says of the argument arrays.
-/
module

public import proofs.«01_k».proof.Defs
public import proofs.«01_k».proof.Proof.Router.Finite
public import proofs.«01_k».proof.Proof.Gates.Array
public import Idealize.ShloMosaic.Lib.Pointwise

@[expose] public section
noncomputable section

namespace Cert.Gates
open Idealize.ShloMosaic Idealize.ShloMosaic.TcCoe Idealize.SL.Sem
open Cert.Router (reals_of_below)

/-- The shapes of the precondition's broadcasts. -/
instance preFacts : Cert.Pre_finite6.Facts := by
  constructor <;> decide

/-- The precondition says that the arrays hold real numbers. -/
theorem reals (m : (ℓ : Loc Cert.Kernel3Ideal.nD Cert.Kernel3Ideal.τ Cert.Kernel3Ideal.sig) → Buf (Elt Ideal) ℓ)
    (h : Cert.Pre_Kernel6Ideal_finite6 m) (c : Dev Cert.Kernel3Ideal.nD) : Reals m c := by
  obtain ⟨h0, h1, h2, h3, h4⟩ := h c
  exact ⟨reals_of_below _ _ h0, reals_of_below _ _ h1, reals_of_below _ _ h2, reals_of_below _ _ h3, reals_of_below _ _ h4⟩

end Cert.Gates
end
-- ==== Proof.Gates.Reference.lean ====
/-
  What the gates' reference computes, read at an index.
-/
module

public import proofs.«01_k».proof.Proof.Gates.Array
public import proofs.«01_k».proof.Proof.Gen.Reference6Ideal.Read

@[expose] public section
noncomputable section

namespace Cert.Gates
open Idealize.ShloMosaic Idealize.ShloMosaic.TcCoe
open Cert.Reference6Ideal Cert.Reference6Ideal.Value Cert.Reference6Ideal.Read
open Cert.InProj (rmsNorm)

variable (x0 : Vec Ideal S8x4096x1024 .f32) (x1 x2 : Vec Ideal S8x1024 .f32) (x3 : Vec Ideal S1024 .f32)
  (x4 : Vec Ideal S1024x3600 .f32) (x5 : Vec Ideal S3600 .f32) (b : Fin 8) (s : Fin 4096)

/-- The normalized token. -/
theorem v20_apply (k : Fin 1024) : val_main_v20 (F := Ideal) x0 x1 x2 x3 (ix3 b s k)
    = rmsNorm (fun k => x0 (ix3 b s k)) (fun k => x3 (ix1 k)) (fun k => x1 (ix2 b k)) (fun k => x2 (ix2 b k)) k := by
  pointwise [val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2]
  rfl

/-- The projection. -/
theorem v24_apply (n : Fin 3600) : val_main_v24 (F := Ideal) x0 x1 x2 x3 x4 x5 (ix3 b s n)
    = ∑ k, val_main_v20 (F := Ideal) x0 x1 x2 x3 (ix3 b s k) * x4 (ix2 k n) + x5 (ix1 n) := by
  pointwise [val_main_v24, val_main_v23, val_main_v22, val_main_v21]

theorem fill (i : S_.Idx) : val_main_call0_v0 (F := Ideal) i = (0 : EReal) := sitofp_zero

/-- The gates: a head's four columns, then four rows of zeros. -/
theorem v29_apply (j : Fin 32) : val_main_v29 (F := Ideal) x0 x1 x2 x3 x4 x5 (ix3 b j s)
    = if h : j.val / 8 < 4 ∧ j.val % 8 < 4
      then val_main_v24 (F := Ideal) x0 x1 x2 x3 x4 x5 (ix3 b s (col j h)) else (0 : EReal) := by
  pointwise [val_main_v29, val_main_v28, val_main_v27, val_main_v26, val_main_v25]
  simp only [fill]
  rfl

end Cert.Gates
end
-- ==== Proof.Gates.Equation.lean ====
/-
  The gates: kernel and reference leave the same array over finite arguments, and the reference's run is
  quiescent.
-/
module

public import proofs.«01_k».proof.Defs
public import proofs.«01_k».proof.Proof.Gates.Frame
public import proofs.«01_k».proof.Proof.Gates.Finite
public import proofs.«01_k».proof.Proof.Gates.Reference
public import proofs.«01_k».proof.Proof.Gen.Kernel3Ideal
public import proofs.«01_k».proof.Proof.Gen.Reference6Ideal
public import proofs.«01_k».proof.Proof.Gen.Reference6Ideal.Run
public import Idealize.ShloMosaic.Lib.Quiescent

@[expose] public section
noncomputable section

namespace Cert.Gates
open Idealize.ShloMosaic Idealize.ShloMosaic.TcCoe Idealize.SL.Sem
open Cert.InProj (A0 A1 A2 A3 A4 A5)

variable (m : (ℓ : Loc Cert.Kernel3Ideal.nD Cert.Kernel3Ideal.τ Cert.Kernel3Ideal.sig) → Buf (Elt Ideal) ℓ)
  (c : Dev Cert.Kernel3Ideal.nD)

/-- The kernel's result array. -/
def out : Vec Ideal Cert.Kernel3Ideal.S8x32x4096 .f32 :=
  (Cert.Kernel3Ideal.Gen.dats m 0 c).arrAt 12 Cert.Kernel3Ideal.cfg0.N

/-- It is the reference's term over the kernel's arguments. -/
theorem result (h : Reals m c) : out m c = Cert.Reference6Ideal.Read.val_main_v29 (F := Ideal)
    (A0 m c) (A1 m c) (A2 m c) (A3 m c) (A4 m c) (A5 m c) := by
  funext i
  obtain ⟨b, j, s, rfl⟩ : ∃ (b : Fin 8) (j : Fin 32) (s : Fin 4096), i = ix3 b j s := ⟨i 0, i 1, i 2, eq_ix3 i⟩
  refine (arr12_gate m c h b s j).trans ?_
  refine Eq.trans ?_ (v29_apply ..).symm
  simp only [v24_apply, v20_apply]

/-- So it is the reference's term over arrays equal to the kernel's arguments. -/
theorem value (h : Reals m c) {x0 : Vec Ideal Cert.Kernel3Ideal.S8x4096x1024 .f32}
    {x1 x2 : Vec Ideal Cert.Kernel3Ideal.S8x1024 .f32} {x3 : Vec Ideal Cert.Kernel3Ideal.S1024 .f32}
    {x4 : Vec Ideal Cert.Kernel3Ideal.S1024x3600 .f32} {x5 : Vec Ideal Cert.Kernel3Ideal.S3600 .f32}
    (h0 : x0 = A0 m c) (h1 : x1 = A1 m c) (h2 : x2 = A2 m c) (h3 : x3 = A3 m c) (h4 : x4 = A4 m c) (h5 : x5 = A5 m c) :
    Cert.Reference6Ideal.Read.val_main_v29 (F := Ideal) x0 x1 x2 x3 x4 x5 = out m c := by
  rw [result m c h, h0, h1, h2, h3, h4, h5]

/-- The kernel's run, with the one result named. -/
theorem kernel_run (g : Dev Cert.Kernel3Ideal.nD → PrngReg) :
    θ_run (Cert.Kernel3Ideal.defs (F := Ideal)) (onTc (τ := Cert.Kernel3Ideal.τ) (Cert.Kernel3Ideal.main (F := Ideal)))
      ⟨m, fun _ => 0, g⟩ fun r => ∀ c : Dev Cert.Kernel3Ideal.nD,
      r.2.mem ((c.tc : Thread Cert.Kernel3Ideal.nD Cert.Kernel3Ideal.τ).loc Cert.Kernel3Ideal.main_v23_2) = out m c
      ∧ r.2.mem ((c.tc : Thread Cert.Kernel3Ideal.nD Cert.Kernel3Ideal.τ).loc Cert.Kernel3Ideal.main_arg0)
        = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1)
        = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2)
        = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3)
        = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4)
        = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5)
        = m ((c.tc : Thread Cert.Kernel3Ideal.nD Cert.Kernel3Ideal.τ).loc Cert.Kernel3Ideal.main_arg5) :=
  (θ_run _ _ _).mono (fun _ h c => ⟨(h c).2.2.1, (h c).2.2.2⟩) (Cert.Kernel3Ideal.Value.run_blocks (F := Ideal) m g)

theorem reference_frame : Cert.quiescent_Reference6Ideal := fun m g _ =>
  (θ_run _ _ _).mono (fun r h => ⟨fun c => (h c).2, sem_eq_zero_of_no_sems (by decide) _⟩)
    (Cert.Reference6Ideal.Value.run (F := Ideal) m g)

theorem equal : Cert.algebraic_Kernel6Ideal_Reference6Ideal_pre_finite6 := by
  intro m g m' g' hpre hargs
  refine ⟨fun c => out m c, ?_, ?_⟩
  · have h := kernel_run m g
    rw [← idealDefs_eq, ← idealMain_eq] at h
    exact h
  refine (θ_run _ _ _).mono (fun r h c =>
    ⟨((h c).1.trans (Cert.Reference6Ideal.Read.val_main_v29_eq (F := Ideal) ..)).trans ?_, (h c).2⟩)
    (Cert.Reference6Ideal.Value.run (F := Ideal) m' g')
  obtain ⟨h0, h1, h2, h3, h4, h5⟩ := hargs c
  exact value m c (reals m hpre c) h0 h1 h2 h3 h4 h5

end Cert.Gates
end
-- ==== Proof.Modulation.Frame.lean ====
/- The frame of the modulation call as it is compiled.  Its program and the program read at the ideal instance are one
   text under two names, so the facts and the frame proved of the second are those of the first. -/
module

public import proofs.«01_k».proof.Defs
public import proofs.«01_k».proof.Proof.Gen.Kernel7Ideal.Frame

@[expose] public section

noncomputable section

namespace Cert.Modulation

open Idealize.ShloMosaic Idealize.SL.Sem

/-- The side conditions of the compiled program are those of the ideal one. -/
theorem facts₀ : Cert.Kernel7.Facts₀ := by
  have h : Cert.Kernel7Ideal.Facts₀ := inferInstance
  cases h
  constructor <;> assumption

instance facts : Cert.Kernel7.Facts := { toFacts₀ := facts₀ }

/-- The two programs' bodies are one. -/
theorem defs₀_eq : @Cert.Kernel7.defs₀ Bits _ _ = @Cert.Kernel7Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))

/-- The two launches are one. -/
theorem defs_eq : @Cert.Kernel7.defs Bits _ _ = @Cert.Kernel7Ideal.defs Bits _ _ :=
  congrArg (Pipeline.defs Cert.Kernel7Ideal.pcfgs) defs₀_eq

/-- The programs that prepare the operands and launch are one. -/
theorem main_eq : @Cert.Kernel7.main Bits _ = @Cert.Kernel7Ideal.main Bits _ := by
  unfold Cert.Kernel7.main Cert.Kernel7Ideal.main
  rfl

/-- The call leaves its arguments as they were and its semaphores at zero. -/
theorem frame : Cert.quiescent_Kernel7 := by
  intro m ρ _
  have h := Cert.Kernel7Ideal.Gen.frame (F := Bits) m ρ
  rw [← defs_eq, ← main_eq] at h
  exact h

end Cert.Modulation

end
-- ==== Proof.Modulation.Array.lean ====
/-
  What the modulation kernel's result array holds, read at an index over real argument arrays.
-/
module

public import proofs.«01_k».proof.Proof.Gen.Kernel7Ideal.Value
public import proofs.«01_k».proof.Proof.Real.Row
public import Idealize.ShloMosaic.Lib.Pipeline.ValueKit
public import Idealize.ShloMosaic.Lib.Pointwise

@[expose] public section
noncomputable section

namespace Cert.Modulation
open Idealize.ShloMosaic Idealize.ShloMosaic.TcCoe Idealize.SL.Sem
open Cert.Kernel7Ideal Cert.Kernel7Ideal.Gen Cert.Kernel7Ideal.Value
open Cert.Real (IsReal)

theorem hz2 : (![0, 0] : Fin 2 → Nat) = fun _ => 0 := funext fun a => by fin_cases a <;> rfl

section Body
variable (x : Vec Ideal S8x1024 .f32) (w : Vec Ideal S1024x768 .f32) (b : Vec Ideal S1x768 .f32) (i : Fin 8) (n : Fin 768)

/-- An entry of the step's block: the product is taken in three passes. -/
theorem pay1_passes : k0_pay1 x w b (ix2 i n)
    = ∑ k, x (ix2 i k) * w (ix2 k n) + ∑ k, x (ix2 i k) * (w (ix2 k n) - w (ix2 k n))
      + ∑ k, (x (ix2 i k) - x (ix2 i k)) * w (ix2 k n) + b (ix2 0 n) := by
  pointwise [k0_pay1]

/-- One grid step's output block: the plain product where the entries are real, plus the bias. -/
theorem out3_apply (hx : ∀ k, IsReal (x (ix2 i k))) (hw : ∀ k, IsReal (w (ix2 k n))) :
    out0_3 x w b (ix2 i n) = ∑ k, x (ix2 i k) * w (ix2 k n) + b (ix2 0 n) := by
  unfold out0_3
  rw [View.canon_unit_zero hz2]
  repeat rw [View.ld_unit_zero hz2]
  rw [pay1_passes, Real.threePass hx hw]

end Body

variable (m : (ℓ : Loc nD τ sig) → Buf (Elt Ideal) ℓ) (c : Dev nD)

/-- The windows' index maps: the tile of columns is the grid point. -/
theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The column of the whole array that a column of a grid point's tile is. -/
def nOf (t : Fin cfg0.N) (n : Fin 768) : Fin 6144 :=
  ⟨768 * t.val + n.val, by have : t.val < 8 := lt_of_lt_of_eq t.isLt N_0; omega⟩
/-- The grid point whose tile holds a column, and the column there. -/
def ptOf (n : Fin 6144) : Fin cfg0.N := ⟨n.val / 768, lt_of_lt_of_eq (by omega) N_0.symm⟩
def colOf (n : Fin 6144) : Fin 768 := ⟨n.val % 768, Nat.mod_lt _ (by decide)⟩
theorem nOf_ptOf (n : Fin 6144) : nOf (ptOf n) (colOf n) = n :=
  Fin.ext (by show 768 * (n.val / 768) + n.val % 768 = n.val; omega)

/-- The argument arrays. -/
abbrev A0 : Vec Ideal S8x1024 .f32 := m ((c : Thread nD τ).loc main_arg0)
abbrev A1 : Vec Ideal S1024x6144 .f32 := m ((c : Thread nD τ).loc main_arg1)
abbrev A2 : Vec Ideal S6144 .f32 := m ((c : Thread nD τ).loc main_arg2)

/-- What the host operation before the call leaves in the bias row. -/
theorem V_v0 : V m c main_v0 = shapeCast S1x6144 (A2 m c) shapeCasts_S6144_S1x6144 := by
  simp only [V, hostOps0]
  after_results_simp
  rfl

theorem blk0 (t : Fin cfg0.N) (i : Fin 8) (k : Fin 1024) :
    (iblk m c 0 t : Vec Ideal S8x1024 .f32) (ix2 i k) = A0 m c (ix2 i k) := by
  blk_ext! [iblk, V, idx t]
theorem blk1 (t : Fin cfg0.N) (k : Fin 1024) (n : Fin 768) :
    (iblk m c 1 t : Vec Ideal S1024x768 .f32) (ix2 k n) = A1 m c (ix2 k (nOf t n)) := by
  blk_ext! [iblk, V, idx t, nOf]
theorem rd2 (A : Vec Ideal S1x6144 .f32) (t : Fin cfg0.N) (n : Fin 768) :
    (((cfg0.win 2).blk t).view.read (Elt Ideal) A : Vec Ideal S1x768 .f32) (ix2 0 n) = A (ix2 0 (nOf t n)) := by
  blk_ext! [idx t, nOf]
theorem blk2 (t : Fin cfg0.N) (n : Fin 768) :
    (iblk m c 2 t : Vec Ideal S1x768 .f32) (ix2 0 n) = A2 m c (ix1 (nOf t n)) := by
  refine (rd2 (V m c main_v0) t n).trans ?_
  rw [V_v0]
  pointwise []

/-- The result's block read back from any array. -/
theorem blk3 (A : Vec Ideal S8x6144 .f32) (t : Fin cfg0.N) (i : Fin 8) (n : Fin 768) :
    (((cfg0.win 3).blk t).view.read (Elt Ideal) A : Vec Ideal S8x768 .f32) (ix2 i n) = A (ix2 i (nOf t n)) := by
  blk_ext! [idx t, nOf]

theorem flush3 : ∀ t : Fin cfg0.N, (cfg0.win 3).flush t = true :=
  (by decide +kernel : ∀ t : Fin grid0.N, win0_3.flush t = true)

/-- The argument arrays, the bias aside, hold real numbers. -/
structure Reals : Prop where
  r0 : ∀ i, IsReal (A0 m c i)
  r1 : ∀ i, IsReal (A1 m c i)

/-- The result array at an index: the conditioning vector against the weights, plus the bias. -/
theorem arr3_apply (h : Reals m c) (i : Fin 8) (n : Fin 6144) :
    ((dats m 0 c).arrAt 3 cfg0.N : Vec Ideal S8x6144 .f32) (ix2 i n)
      = ∑ k, A0 m c (ix2 i k) * A1 m c (ix2 k n) + A2 m c (ix1 n) := by
  have l := blk3 ((dats m 0 c).arrAt 3 cfg0.N) (ptOf n) i (colOf n)
  rw [nOf_ptOf] at l
  rw [← l, blocks3 m c _ (flush3 _), flushed3]
  refine (out3_apply _ _ _ i (colOf n) (fun k => ?_) (fun k => ?_)).trans ?_
  · rw [blk0]
    exact h.r0 _
  · rw [blk1]
    exact h.r1 _
  simp only [blk0, blk1, blk2, nOf_ptOf]

end Cert.Modulation
end
-- ==== Proof.Modulation.Equation.lean ====
/-
  The modulation: kernel and reference leave the same array over finite arguments, and the reference's run is quiescent.
-/
module

public import proofs.«01_k».proof.Defs
public import proofs.«01_k».proof.Proof.Modulation.Array
public import proofs.«01_k».proof.Proof.Router.Finite
public import proofs.«01_k».proof.Proof.Gen.Reference7Ideal.Read
public import Idealize.ShloMosaic.Lib.Quiescent

@[expose] public section
noncomputable section

namespace Cert.Modulation
open Idealize.ShloMosaic Idealize.ShloMosaic.TcCoe Idealize.SL.Sem
open Cert.Kernel7Ideal Cert.Kernel7Ideal.Gen
open Cert.Reference7Ideal.Read
open Cert.Router (reals_of_below)

/-- The shapes of the precondition's broadcasts. -/
instance preFacts : Cert.Pre_finite7.Facts := by
  constructor <;> decide

variable (m : (ℓ : Loc nD τ sig) → Buf (Elt Ideal) ℓ) (c : Dev nD)

/-- The precondition says that the arrays hold real numbers. -/
theorem reals (h : Cert.Pre_Kernel7Ideal_finite7 m) : Reals m c := by
  obtain ⟨h0, h1⟩ := h c
  exact ⟨reals_of_below _ _ h0, reals_of_below _ _ h1⟩

/-- The reference at an index. -/
theorem v3_apply (x0 : Vec Ideal S8x1024 .f32) (x1 : Vec Ideal S1024x6144 .f32) (x2 : Vec Ideal S6144 .f32)
    (i : Fin 8) (n : Fin 6144) : val_main_v3 (F := Ideal) x0 x1 x2 (ix2 i n)
      = ∑ k, x0 (ix2 i k) * x1 (ix2 k n) + x2 (ix1 n) := by
  pointwise [val_main_v3, val_main_v2, val_main_v1, val_main_v0]

/-- The kernel's result array. -/
def out : Vec Ideal S8x6144 .f32 := (dats m 0 c).arrAt 3 cfg0.N

/-- It is the reference's term over arrays equal to the kernel's arguments. -/
theorem value (h : Reals m c) {x0 : Vec Ideal S8x1024 .f32} {x1 : Vec Ideal S1024x6144 .f32} {x2 : Vec Ideal S6144 .f32}
    (h0 : x0 = A0 m c) (h1 : x1 = A1 m c) (h2 : x2 = A2 m c) : val_main_v3 (F := Ideal) x0 x1 x2 = out m c := by
  subst h0 h1 h2
  funext i
  obtain ⟨b, n, rfl⟩ : ∃ (b : Fin 8) (n : Fin 6144), i = ix2 b n := ⟨i 0, i 1, eq_ix2 i⟩
  exact (v3_apply ..).trans (arr3_apply m c h b n).symm

theorem reference_frame : Cert.quiescent_Reference7Ideal := fun m g _ =>
  (θ_run _ _ _).mono (fun r h => ⟨fun c => (h c).2, sem_eq_zero_of_no_sems (by decide) _⟩)
    (Cert.Reference7Ideal.Value.run (F := Ideal) m g)

theorem equal : Cert.algebraic_Kernel7Ideal_Reference7Ideal_pre_finite7 := by
  intro m g m' g' hpre hargs
  refine ⟨fun c => out m c, Cert.Kernel7Ideal.Value.run_blocks (F := Ideal) m g, ?_⟩
  refine (θ_run _ _ _).mono (fun r h c =>
    ⟨((h c).1.trans (val_main_v3_eq (F := Ideal) ..)).trans ?_, (h c).2⟩)
    (Cert.Reference7Ideal.Value.run (F := Ideal) m' g')
  obtain ⟨h0, h1, h2⟩ := hargs c
  exact value m c (reals m c hpre) h0 h1 h2

end Cert.Modulation
end
-- ==== Proof.Filter.Frame.lean ====
/- The frame of the filters' hidden-layer call as it is compiled.  Its program and the program read at the ideal instance are one
   text under two names, so the facts and the frame proved of the second are those of the first. -/
module

public import proofs.«01_k».proof.Defs
public import proofs.«01_k».proof.Proof.Gen.Kernel8Ideal.Frame

@[expose] public section

noncomputable section

namespace Cert.Filter

open Idealize.ShloMosaic Idealize.SL.Sem

/-- The side conditions of the compiled program are those of the ideal one. -/
theorem facts₀ : Cert.Kernel8.Facts₀ := by
  have h : Cert.Kernel8Ideal.Facts₀ := inferInstance
  cases h
  constructor <;> assumption

instance facts : Cert.Kernel8.Facts := { toFacts₀ := facts₀ }

/-- The two programs' bodies are one. -/
theorem defs₀_eq : @Cert.Kernel8.defs₀ Bits _ _ = @Cert.Kernel8Ideal.defs₀ Bits _ _ := by
  refine congrArg Defs.onTc (funext fun l => funext fun a => ?_)
  obtain ⟨n, hn⟩ := l
  cases n with
  | zero => rfl
  | succ n => exact absurd hn (Nat.not_lt.2 (Nat.le_add_left _ _))

/-- The two launches are one. -/
theorem defs_eq : @Cert.Kernel8.defs Bits _ _ = @Cert.Kernel8Ideal.defs Bits _ _ :=
  congrArg (Pipeline.defs Cert.Kernel8Ideal.pcfgs) defs₀_eq

/-- The programs that prepare the operands and launch are one. -/
theorem main_eq : @Cert.Kernel8.main Bits _ = @Cert.Kernel8Ideal.main Bits _ := by
  unfold Cert.Kernel8.main Cert.Kernel8Ideal.main
  rfl

/-- The call leaves its arguments as they were and its semaphores at zero. -/
theorem frame : Cert.quiescent_Kernel8 := by
  intro m ρ _
  have h := Cert.Kernel8Ideal.Gen.frame (F := Bits) m ρ
  rw [← defs_eq, ← main_eq] at h
  exact h

end Cert.Filter

end
-- ==== Proof.Filter.Payload.lean ====
/-
  The filters' hidden layers, a row over its position, and what one grid step of the kernel writes of them.
-/
module

public import proofs.«01_k».proof.Proof.Gen.Kernel8Ideal.Value
public import proofs.«01_k».proof.Proof.Real.Row
public import Idealize.ShloMosaic.Lib.Pipeline.ValueKit
public import Idealize.ShloMosaic.Lib.Pointwise

@[expose] public section
noncomputable section

namespace Cert.Filter
open Idealize.ShloMosaic Idealize.ShloMosaic.TcCoe
open Cert.Kernel8Ideal Cert.Kernel8Ideal.Gen
open Cert.Real (IsReal)

/-! ## The mathematics -/

/-- The position of a row: forward to the half, then back. -/
def place (j : BitVec 32) : EReal := FloatOps.sitofp (F := Ideal) FTy.f32
  (Scalar.select (IntOp.cmpi CmpIPredicate.slt j 4096#32) j (IntOp.subi 8192#32 j))
/-- The angle of a band at a position. -/
def angle (p : EReal) (x : Fin 16) : EReal :=
  (Ideal.ofBits FTy.f32 0x38D1B717#32 + FloatOps.sitofp (F := Ideal) FTy.f32 (BitVec.ofNat 32 x)
      * Ideal.ofBits FTy.f32 0x3F7FFF90#32)
    * Ideal.div (Ideal.ofBits FTy.f32 0x40C90FDB#32 * p) (Ideal.ofBits FTy.f32 0x45800000#32)
/-- The first hidden layer: the position's fraction, cosines and sines against their weights, plus the bias, times the
    frequency, through the sine. -/
def hid (p : EReal) (wt : Fin 64 → EReal) (wc ws : Fin 16 → Fin 64 → EReal) (b f : Fin 64 → EReal) (n : Fin 64) : EReal :=
  Ideal.sin (f n * (Ideal.div p (Ideal.ofBits FTy.f32 0x457FF000#32) * wt n + ∑ x, Ideal.cos (angle p x) * wc x n
    + ∑ x, -Ideal.sin (angle p x) * ws x n + b n))
/-- The second. -/
def hid2 (h : Fin 64 → EReal) (w : Fin 64 → Fin 64 → EReal) (b f : Fin 64 → EReal) (n : Fin 64) : EReal :=
  Ideal.sin (f n * (∑ k, h k * w k n + b n))

/-! ## Sums that a sine can't tell apart

The sine of either infinity is the bottom, so it keeps of an infinite sum only that it is infinite. -/

/-- Infinite, of either sign. -/
def Inf (x : EReal) : Prop := x = ⊤ ∨ x = ⊥
/-- Equal, or both infinite. -/
def Same (x y : EReal) : Prop := x = y ∨ (Inf x ∧ Inf y)

theorem inf_or_real (x : EReal) : Inf x ∨ IsReal x := by
  induction x using EReal.rec with
  | bot => exact .inl (.inr rfl)
  | top => exact .inl (.inl rfl)
  | coe r => exact .inr ⟨r, rfl⟩
theorem inf_add_left {x : EReal} (h : Inf x) (y : EReal) : Inf (x + y) := by
  rcases h with rfl | rfl
  · induction y using EReal.rec with
    | bot => exact .inr rfl
    | top => exact .inl rfl
    | coe r => exact .inl rfl
  · exact .inr (EReal.bot_add y)
theorem inf_add_right {y : EReal} (h : Inf y) (x : EReal) : Inf (x + y) := add_comm y x ▸ inf_add_left h x
theorem inf_mul {x y : EReal} (h : Inf x) (hy : y ≠ 0) : Inf (x * y) := by
  rcases h with rfl | rfl <;> rcases lt_or_gt_of_ne hy with h0 | h0
  · exact .inr (EReal.top_mul_of_neg h0)
  · exact .inl (EReal.top_mul_of_pos h0)
  · exact .inl (EReal.bot_mul_of_neg h0)
  · exact .inr (EReal.bot_mul_of_pos h0)
theorem inf_mul_right {x y : EReal} (hx : x ≠ 0) (h : Inf y) : Inf (x * y) := mul_comm y x ▸ inf_mul h hx
theorem sin_inf {x : EReal} (h : Inf x) : Ideal.sin x = ⊥ := by
  rcases h with rfl | rfl <;> rfl

theorem Same.refl (x : EReal) : Same x x := .inl rfl
theorem Same.add {x y u v : EReal} (h : Same x y) (g : Same u v) : Same (x + u) (y + v) := by
  rcases h with rfl | ⟨hx, hy⟩
  · rcases g with rfl | ⟨hu, hv⟩
    · exact .inl rfl
    · exact .inr ⟨inf_add_right hu _, inf_add_right hv _⟩
  · exact .inr ⟨inf_add_left hx _, inf_add_left hy _⟩
theorem Same.sum {ι : Type} (s : Finset ι) {f g : ι → EReal} (h : ∀ k, Same (f k) (g k)) :
    Same (∑ k ∈ s, f k) (∑ k ∈ s, g k) := by
  classical
  induction s using Finset.induction_on with
  | empty => exact .refl _
  | insert k s hk ih =>
    rw [Finset.sum_insert hk, Finset.sum_insert hk]
    exact (h k).add ih
/-- The sine of a multiple does not tell such sums apart. -/
theorem Same.sin {x y : EReal} (h : Same x y) (f : EReal) : Ideal.sin (f * x) = Ideal.sin (f * y) := by
  rcases h with rfl | ⟨hx, hy⟩
  · rfl
  · rcases eq_or_ne f 0 with rfl | hf
    · rw [zero_mul, zero_mul]
    · rw [sin_inf (inf_mul_right hf hx), sin_inf (inf_mul_right hf hy)]

/-- One term in three passes. -/
theorem same_term (x y : EReal) : Same (x * y + x * (y - y) + (x - x) * y) (x * y) := by
  have inf (h : Inf (x * y)) : Same (x * y + x * (y - y) + (x - x) * y) (x * y) :=
    .inr ⟨inf_add_left (inf_add_left h _) _, h⟩
  rcases eq_or_ne x 0 with rfl | hx
  · exact .inl (by simp)
  rcases eq_or_ne y 0 with rfl | hy
  · exact .inl (by simp)
  rcases inf_or_real x with h | h
  · exact inf (inf_mul h hy)
  rcases inf_or_real y with g | g
  · exact inf (inf_mul_right hx g)
  rw [Real.sub_self h, Real.sub_self g, mul_zero, zero_mul, add_zero, add_zero]
  exact .refl _
/-- A product in three passes is the plain one, or both are infinite. -/
theorem same_passes {n : Nat} (a b : Fin n → EReal) :
    Same (∑ k, a k * b k + ∑ k, a k * (b k - b k) + ∑ k, (a k - a k) * b k) (∑ k, a k * b k) := by
  rw [← Finset.sum_add_distrib, ← Finset.sum_add_distrib]
  exact Same.sum _ fun k => same_term (a k) (b k)

/-! ## The kernel's step -/

variable (i : grid0.Coords) (r : Fin 1024) (n : Fin 64)

/-- The row of the whole array that a row of a step's block is. -/
def row (i : grid0.Coords) (r : Fin 1024) : BitVec 32 := BitVec.ofNat 32 (1024 * (i 0).val + r.val)

theorem pay2_apply : k0_pay2 (F := Ideal) i (ix2 r 0) = place (row i r) := by
  have e : IntOp.addi (Scalar.muli (BitVec.ofNat 32 (i 0)) 1024#32) (BitVec.ofNat 32 r) = row i r := by
    show BitVec.ofNat 32 (i 0) * 1024#32 + BitVec.ofNat 32 r = _
    rw [row, BitVec.ofNat_add, BitVec.ofNat_mul, BitVec.mul_comm]
  pointwise [k0_pay2]
  rw [e]
  rfl
theorem pay3_apply (x : Fin 16) : k0_pay3 (F := Ideal) i (ix2 r x) = angle (place (row i r)) x := by
  pointwise [k0_pay3]
  rw [pay2_apply]
  rfl
theorem pay4_apply (v : Vec Ideal S1x64 .f32) : k0_pay4 (F := Ideal) i v (ix2 r n)
    = Ideal.div (place (row i r)) (Ideal.ofBits FTy.f32 0x457FF000#32) * v (ix2 0 n) := by
  pointwise [k0_pay4]
  rw [pay2_apply]
theorem pay8_apply (x : Fin 16) : k0_pay8 (F := Ideal) i (ix2 r x)
    = Ideal.cos (angle (place (row i r)) x) - Ideal.cos (angle (place (row i r)) x) := by
  pointwise [k0_pay8, k0_pay7, k0_pay5]
  rw [pay3_apply]
theorem pay9_apply (v : Vec Ideal S16x64 .f32) (x : Fin 16) : k0_pay9 (F := Ideal) v (ix2 x n) = v (ix2 x n) := by
  pointwise [k0_pay9, k0_pay6]
theorem pay10_apply (v : Vec Ideal S16x64 .f32) : k0_pay10 (F := Ideal) i v (ix2 r n)
    = ∑ x, Ideal.cos (angle (place (row i r)) x) * v (ix2 x n)
      + ∑ x, Ideal.cos (angle (place (row i r)) x) * (v (ix2 x n) - v (ix2 x n)) := by
  pointwise [k0_pay10, k0_pay5, k0_pay6, k0_pay7, k0_pay9]
  simp only [pay3_apply]

/-- The first layer in the kernel's passes. -/
theorem pay11_apply (a : FVec Ideal S1024x16 .f32) (t : FVec Ideal S1024x64 .f32) (l : FVec Ideal S1024x16 .bf16)
    (h : FVec Ideal S16x64 .bf16) (u z : FVec Ideal S1024x64 .f32) (ws : Vec Ideal S16x64 .f32) (b f : Vec Ideal S1x64 .f32) :
    k0_pay11 a t l h u z ws b f (ix2 r n)
      = Ideal.sin (f (ix2 0 n) * (t (ix2 r n) + (u (ix2 r n) + (z (ix2 r n) + ∑ x, l (ix2 r x) * h (ix2 x n)))
        + (∑ x, (0 - Ideal.sin (a (ix2 r x))) * ws (ix2 x n)
          + ∑ x, (0 - Ideal.sin (a (ix2 r x))) * (ws (ix2 x n) - ws (ix2 x n))
          + ∑ x, (0 - Ideal.sin (a (ix2 r x)) - (0 - Ideal.sin (a (ix2 r x)))) * ws (ix2 x n)) + b (ix2 0 n))) := by
  pointwise [k0_pay11]

theorem hz2 : (![0, 0] : Fin 2 → Nat) = fun _ => 0 := funext fun a => by fin_cases a <;> rfl

variable (x0 : Vec Ideal S1x64 .f32) (x1 x2 : Vec Ideal S16x64 .f32) (x3 : Vec Ideal S1x64 .f32)
  (x4 : Vec Ideal S64x64 .f32) (x5 x6 : Vec Ideal S1x64 .f32)

/-- The first layer as the step computes it. -/
abbrev first : FVec Ideal S1024x64 .f32 :=
  k0_pay11 (k0_pay3 (F := Ideal) i) (k0_pay4 i x0) (k0_pay8 (F := Ideal) i) (k0_pay9 x1) (k0_pay10 i x1)
    (constant S1024x64 .f32 0x00000000#32) x2 x3 x6

theorem first_apply : first i x0 x1 x2 x3 x6 (ix2 r n) = hid (place (row i r)) (fun n => x0 (ix2 0 n))
    (fun x n => x1 (ix2 x n)) (fun x n => x2 (ix2 x n)) (fun n => x3 (ix2 0 n)) (fun n => x6 (ix2 0 n)) n := by
  have hz : (constant S1024x64 .f32 0x00000000#32 : FVec Ideal S1024x64 .f32) (ix2 r n) = 0 := by pointwise []
  refine (pay11_apply ..).trans ?_
  rw [hz, zero_add]
  simp only [pay3_apply, pay4_apply, pay8_apply, pay9_apply, pay10_apply, zero_sub]
  exact ((((Same.refl _).add (same_passes _ _)).add (same_passes _ _)).add (.refl _)).sin _

/-- One grid step's block. -/
theorem out7_apply : out0_7 i x0 x1 x2 x3 x4 x5 x6 (ix2 r n)
      = hid2 (hid (place (row i r)) (fun n => x0 (ix2 0 n)) (fun x n => x1 (ix2 x n))
      (fun x n => x2 (ix2 x n)) (fun n => x3 (ix2 0 n)) (fun n => x6 (ix2 0 n))) (fun k n => x4 (ix2 k n))
        (fun n => x5 (ix2 0 n)) (fun n => x6 (ix2 0 n)) n := by
  unfold out0_7 k0_pay23 k0_pay22 k0_pay21 k0_pay20 k0_pay19 k0_pay18
  rw [View.canon_unit_zero hz2]
  repeat rw [View.ld_unit_zero hz2]
  refine Eq.trans (b := Ideal.sin (x6 (ix2 0 n) * (∑ k, first i x0 x1 x2 x3 x6 (ix2 r k) * x4 (ix2 k n)
    + ∑ k, first i x0 x1 x2 x3 x6 (ix2 r k) * (x4 (ix2 k n) - x4 (ix2 k n))
    + ∑ k, (first i x0 x1 x2 x3 x6 (ix2 r k) - first i x0 x1 x2 x3 x6 (ix2 r k)) * x4 (ix2 k n) + x5 (ix2 0 n)))) ?_ ?_
  · pointwise [k0_pay1, k0_pay12, k0_pay13, k0_pay14, k0_pay15, k0_pay16, k0_pay17]
  simp only [fun k => first_apply i r k x0 x1 x2 x3 x6]
  exact ((same_passes _ _).add (.refl _)).sin _

end Cert.Filter
end
-- ==== Proof.Filter.Array.lean ====
/-
  What the filters' hidden-layer kernel's result array holds, read at an index.
-/
module

public import proofs.«01_k».proof.Proof.Filter.Payload

@[expose] public section
noncomputable section

namespace Cert.Filter
open Idealize.ShloMosaic Idealize.ShloMosaic.TcCoe Idealize.SL.Sem
open Cert.Kernel8Ideal Cert.Kernel8Ideal.Gen Cert.Kernel8Ideal.Value

variable (m : (ℓ : Loc nD τ sig) → Buf (Elt Ideal) ℓ) (c : Dev nD)

/-- The windows' index maps: the weights whole, the tile of rows the grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)
theorem coord : ∀ t : Fin cfg0.N, (grid0.coords t 0).val = t.val :=
  (by decide +kernel : ∀ t : Fin grid0.N, _)

/-- The row of the whole array that a row of a grid point's tile is. -/
def rOf (t : Fin cfg0.N) (r : Fin 1024) : Fin 8192 :=
  ⟨1024 * t.val + r.val, by have : t.val < 8 := lt_of_lt_of_eq t.isLt N_0; omega⟩
/-- The grid point whose tile holds a row, and the row there. -/
def ptOf (j : Fin 8192) : Fin cfg0.N := ⟨j.val / 1024, lt_of_lt_of_eq (by omega) N_0.symm⟩
def inOf (j : Fin 8192) : Fin 1024 := ⟨j.val % 1024, Nat.mod_lt _ (by decide)⟩
theorem rOf_ptOf (j : Fin 8192) : rOf (ptOf j) (inOf j) = j :=
  Fin.ext (by show 1024 * (j.val / 1024) + j.val % 1024 = j.val; omega)
theorem row_ptOf (j : Fin 8192) : row (grid0.coords (ptOf j)) (inOf j) = BitVec.ofNat 32 j.val := by
  rw [row, coord]
  exact congrArg _ (congrArg Fin.val (rOf_ptOf j))

/-- The argument arrays. -/
abbrev A0 : Vec Ideal S33x64 .f32 := m ((c : Thread nD τ).loc main_arg0)
abbrev A1 : Vec Ideal S64 .f32 := m ((c : Thread nD τ).loc main_arg1)
abbrev A2 : Vec Ideal S64x64 .f32 := m ((c : Thread nD τ).loc main_arg2)
abbrev A3 : Vec Ideal S64 .f32 := m ((c : Thread nD τ).loc main_arg3)
abbrev A4 : Vec Ideal S64 .f32 := m ((c : Thread nD τ).loc main_arg4)

/-! What the host operations before the call leave. -/

theorem V_v0 : V m c main_v0 = extractStridedSlice S1x64 ![0, 0] (A0 m c) slices_S33x64_S1x64_0_0 := by
  simp only [V, hostOps0]
  after_results_simp
theorem V_v1 : V m c main_v1 = extractStridedSlice S16x64 ![1, 0] (A0 m c) slices_S33x64_S16x64_1_0 := by
  simp only [V, hostOps0]
  after_results_simp
theorem V_v2 : V m c main_v2 = extractStridedSlice S16x64 ![17, 0] (A0 m c) slices_S33x64_S16x64_17_0 := by
  simp only [V, hostOps0]
  after_results_simp
theorem V_v3 : V m c main_v3 = shapeCast S1x64 (A1 m c) shapeCasts_S64_S1x64 := by
  simp only [V, hostOps0]
  after_results_simp
  rfl
theorem V_v4 : V m c main_v4 = shapeCast S1x64 (A3 m c) shapeCasts_S64_S1x64 := by
  simp only [V, hostOps0]
  after_results_simp
  rfl
theorem V_v5 : V m c main_v5 = shapeCast S1x64 (A4 m c) shapeCasts_S64_S1x64 := by
  simp only [V, hostOps0]
  after_results_simp
  rfl

/-! The blocks of a grid point. -/

variable (t : Fin cfg0.N) (x : Fin 16) (k n : Fin 64)

theorem rd0 (A : Vec Ideal S1x64 .f32) :
    (((cfg0.win 0).blk t).view.read (Elt Ideal) A : Vec Ideal S1x64 .f32) (ix2 0 n) = A (ix2 0 n) := by blk_ext! [idx t]
theorem rd1 (A : Vec Ideal S16x64 .f32) :
    (((cfg0.win 1).blk t).view.read (Elt Ideal) A : Vec Ideal S16x64 .f32) (ix2 x n) = A (ix2 x n) := by blk_ext! [idx t]
theorem rd2 (A : Vec Ideal S16x64 .f32) :
    (((cfg0.win 2).blk t).view.read (Elt Ideal) A : Vec Ideal S16x64 .f32) (ix2 x n) = A (ix2 x n) := by blk_ext! [idx t]
theorem rd3 (A : Vec Ideal S1x64 .f32) :
    (((cfg0.win 3).blk t).view.read (Elt Ideal) A : Vec Ideal S1x64 .f32) (ix2 0 n) = A (ix2 0 n) := by blk_ext! [idx t]
theorem rd5 (A : Vec Ideal S1x64 .f32) :
    (((cfg0.win 5).blk t).view.read (Elt Ideal) A : Vec Ideal S1x64 .f32) (ix2 0 n) = A (ix2 0 n) := by blk_ext! [idx t]
theorem rd6 (A : Vec Ideal S1x64 .f32) :
    (((cfg0.win 6).blk t).view.read (Elt Ideal) A : Vec Ideal S1x64 .f32) (ix2 0 n) = A (ix2 0 n) := by blk_ext! [idx t]

theorem blk0 : (iblk m c 0 t : Vec Ideal S1x64 .f32) (ix2 0 n) = A0 m c (ix2 0 n) := by
  refine (rd0 t n (V m c main_v0)).trans ?_
  rw [V_v0]
  pointwise []
theorem blk1 : (iblk m c 1 t : Vec Ideal S16x64 .f32) (ix2 x n) = A0 m c (ix2 ⟨1 + x.val, by omega⟩ n) := by
  refine (rd1 t x n (V m c main_v1)).trans ?_
  rw [V_v1]
  pointwise []
theorem blk2 : (iblk m c 2 t : Vec Ideal S16x64 .f32) (ix2 x n) = A0 m c (ix2 ⟨17 + x.val, by omega⟩ n) := by
  refine (rd2 t x n (V m c main_v2)).trans ?_
  rw [V_v2]
  pointwise []
theorem blk3 : (iblk m c 3 t : Vec Ideal S1x64 .f32) (ix2 0 n) = A1 m c (ix1 n) := by
  refine (rd3 t n (V m c main_v3)).trans ?_
  rw [V_v3]
  pointwise []
theorem blk4 : (iblk m c 4 t : Vec Ideal S64x64 .f32) (ix2 k n) = A2 m c (ix2 k n) := by
  blk_ext! [iblk, V, idx t]
theorem blk5 : (iblk m c 5 t : Vec Ideal S1x64 .f32) (ix2 0 n) = A3 m c (ix1 n) := by
  refine (rd5 t n (V m c main_v4)).trans ?_
  rw [V_v4]
  pointwise []
theorem blk6 : (iblk m c 6 t : Vec Ideal S1x64 .f32) (ix2 0 n) = A4 m c (ix1 n) := by
  refine (rd6 t n (V m c main_v5)).trans ?_
  rw [V_v5]
  pointwise []

/-- The result's block read back from any array. -/
theorem blk7 (A : Vec Ideal S8192x64 .f32) (r : Fin 1024) :
    (((cfg0.win 7).blk t).view.read (Elt Ideal) A : Vec Ideal S1024x64 .f32) (ix2 r n) = A (ix2 (rOf t r) n) := by
  blk_ext! [idx t, rOf]

theorem flush7 : ∀ t : Fin cfg0.N, (cfg0.win 7).flush t = true :=
  (by decide +kernel : ∀ t : Fin grid0.N, win0_7.flush t = true)

/-- The result array at an index. -/
theorem arr7_apply (j : Fin 8192) (n : Fin 64) :
    ((dats m 0 c).arrAt 7 cfg0.N : Vec Ideal S8192x64 .f32) (ix2 j n)
      = hid2 (hid (place (BitVec.ofNat 32 j.val)) (fun n => A0 m c (ix2 0 n))
        (fun x n => A0 m c (ix2 ⟨1 + x.val, by omega⟩ n)) (fun x n => A0 m c (ix2 ⟨17 + x.val, by omega⟩ n))
        (fun n => A1 m c (ix1 n)) (fun n => A4 m c (ix1 n)))
        (fun k n => A2 m c (ix2 k n)) (fun n => A3 m c (ix1 n)) (fun n => A4 m c (ix1 n)) n := by
  have l := blk7 (ptOf j) n ((dats m 0 c).arrAt 7 cfg0.N) (inOf j)
  rw [rOf_ptOf] at l
  rw [← l, blocks7 m c _ (flush7 _), flushed7]
  refine (out7_apply ..).trans ?_
  simp only [blk0, blk1, blk2, blk3, blk4, blk5, blk6, row_ptOf]

end Cert.Filter
end
-- ==== Proof.Filter.Reference.lean ====
/-
  What the filters' reference computes, read at an index.
-/
module

public import proofs.«01_k».proof.Proof.Filter.Payload
public import proofs.«01_k».proof.Proof.Gen.Reference8Ideal.Read

@[expose] public section
noncomputable section

namespace Cert.Filter
open Idealize.ShloMosaic Idealize.ShloMosaic.TcCoe
open Cert.Reference8Ideal Cert.Reference8Ideal.Read

variable (j : Fin 8192)

/-- The row's position. -/
theorem v7_apply : val_main_v7 (F := Ideal) (ix2 j 0) = place (BitVec.ofNat 32 j.val) := by
  pointwise [val_main_v7, val_main_v6, val_main_v5, val_main_v4, val_main_v3, val_main_v2, val_main_v1, val_main_v0,
    val_main_c, val_main_c_0]
  rfl

/-- The three parts of its embedding: the fraction, the cosines, the sines. -/
theorem v30_time : val_main_v30 (F := Ideal) (ix2 j 0)
    = Ideal.div (place (BitVec.ofNat 32 j.val)) (Ideal.ofBits FTy.f32 0x457FF000#32) := by
  pointwise [val_main_v30, val_main_v9, val_main_v8, val_main_cst]
  rw [v7_apply]
theorem v24_apply (x : Fin 16) : val_main_v24 (F := Ideal) (ix2 j x) = Ideal.cos (angle (place (BitVec.ofNat 32 j.val)) x) := by
  pointwise [val_main_v24, val_main_v23, val_main_v22, val_main_v21, val_main_v20, val_main_v19, val_main_v18, val_main_v17,
    val_main_v16, val_main_v15, val_main_v14, val_main_v13, val_main_v12, val_main_v11, val_main_v10, val_main_cst_1,
    val_main_cst_2, val_main_cst_3, val_main_cst_4]
  rw [v7_apply]
  rfl
theorem v29_apply (x : Fin 16) : val_main_v29 (F := Ideal) (ix2 j x) = -Ideal.sin (angle (place (BitVec.ofNat 32 j.val)) x) := by
  pointwise [val_main_v29, val_main_v28, val_main_v27, val_main_v26, val_main_v25, val_main_v20, val_main_v19, val_main_v18,
    val_main_v17, val_main_v16, val_main_v15, val_main_v14, val_main_v13, val_main_v12, val_main_v11, val_main_v10,
    val_main_cst_1, val_main_cst_2, val_main_cst_3, val_main_cst_4]
  rw [v7_apply]
  rfl
theorem v30_cos (x : Fin 16) : val_main_v30 (F := Ideal) (ix2 j ⟨1 + x.val, by omega⟩)
    = Ideal.cos (angle (place (BitVec.ofNat 32 j.val)) x) := by
  rw [← v24_apply]
  pointwise [val_main_v30]
theorem v30_sin (x : Fin 16) : val_main_v30 (F := Ideal) (ix2 j ⟨17 + x.val, by omega⟩)
    = -Ideal.sin (angle (place (BitVec.ofNat 32 j.val)) x) := by
  rw [← v29_apply]
  pointwise [val_main_v30]
  rw [dif_neg (by omega), dif_neg (by omega)]
  exact congrArg _ (congrArg (ix2 j) (Fin.ext (by show 17 + x.val - 1 - 16 = x.val; omega)))

/-- A sum over the embedding, in its three parts. -/
theorem sum33 (f : Fin 33 → EReal) : ∑ k, f k
    = f 0 + ∑ x : Fin 16, f ⟨1 + x.val, by omega⟩ + ∑ x : Fin 16, f ⟨17 + x.val, by omega⟩ := by
  refine (Fin.sum_univ_add (a := 17) (b := 16) f).trans ?_
  refine congrArg₂ (· + ·) ((Fin.sum_univ_add (a := 1) (b := 16) fun k => f (Fin.castAdd 16 k)).trans ?_) rfl
  rw [Fin.sum_univ_one]
  rfl

variable (x0 : Vec Ideal S33x64 .f32) (x1 : Vec Ideal S64 .f32) (x2 : Vec Ideal S64x64 .f32) (x3 x4 : Vec Ideal S64 .f32)
  (n : Fin 64)

/-- The first layer. -/
theorem v38_apply : val_main_v38 (F := Ideal) x0 x1 x4 (ix2 j n)
    = hid (place (BitVec.ofNat 32 j.val)) (fun n => x0 (ix2 0 n)) (fun x n => x0 (ix2 ⟨1 + x.val, by omega⟩ n))
      (fun x n => x0 (ix2 ⟨17 + x.val, by omega⟩ n)) (fun n => x1 (ix1 n)) (fun n => x4 (ix1 n)) n := by
  have e : val_main_v38 (F := Ideal) x0 x1 x4 (ix2 j n)
      = Ideal.sin (x4 (ix1 n) * (∑ k, val_main_v30 (F := Ideal) (ix2 j k) * x0 (ix2 k n) + x1 (ix1 n))) := by
    pointwise [val_main_v38, val_main_v37, val_main_v36, val_main_v35, val_main_v34, val_main_v33, val_main_v32, val_main_v31]
  rw [e, sum33, v30_time]
  simp only [v30_cos, v30_sin]
  rfl

/-- The second. -/
theorem v46_apply : val_main_v46 (F := Ideal) x0 x1 x2 x3 x4 (ix2 j n)
    = hid2 (hid (place (BitVec.ofNat 32 j.val)) (fun n => x0 (ix2 0 n)) (fun x n => x0 (ix2 ⟨1 + x.val, by omega⟩ n))
      (fun x n => x0 (ix2 ⟨17 + x.val, by omega⟩ n)) (fun n => x1 (ix1 n)) (fun n => x4 (ix1 n)))
      (fun k n => x2 (ix2 k n)) (fun n => x3 (ix1 n)) (fun n => x4 (ix1 n)) n := by
  have e : val_main_v46 (F := Ideal) x0 x1 x2 x3 x4 (ix2 j n)
      = Ideal.sin (x4 (ix1 n) * (∑ k, val_main_v38 (F := Ideal) x0 x1 x4 (ix2 j k) * x2 (ix2 k n) + x3 (ix1 n))) := by
    pointwise [val_main_v46, val_main_v45, val_main_v44, val_main_v43, val_main_v42, val_main_v41, val_main_v40, val_main_v39]
  rw [e]
  simp only [v38_apply]
  rfl

end Cert.Filter
end
-- ==== Proof.Filter.Equation.lean ====
/-
  The filters' hidden layers: kernel and reference leave the same array, and the reference's run is quiescent.
-/
module

public import proofs.«01_k».proof.Defs
public import proofs.«01_k».proof.Proof.Filter.Array
public import proofs.«01_k».proof.Proof.Filter.Reference
public import Idealize.ShloMosaic.Lib.Quiescent

@[expose] public section
noncomputable section

namespace Cert.Filter
open Idealize.ShloMosaic Idealize.ShloMosaic.TcCoe Idealize.SL.Sem
open Cert.Kernel8Ideal Cert.Kernel8Ideal.Gen
open Cert.Reference8Ideal.Read

variable (m : (ℓ : Loc nD τ sig) → Buf (Elt Ideal) ℓ) (c : Dev nD)

/-- The kernel's result array. -/
def out : Vec Ideal S8192x64 .f32 := (dats m 0 c).arrAt 7 cfg0.N

/-- It is the reference's term over arrays equal to the kernel's arguments. -/
theorem value {x0 : Vec Ideal S33x64 .f32} {x1 : Vec Ideal S64 .f32} {x2 : Vec Ideal S64x64 .f32}
    {x3 x4 : Vec Ideal S64 .f32} (h0 : x0 = A0 m c) (h1 : x1 = A1 m c) (h2 : x2 = A2 m c) (h3 : x3 = A3 m c)
    (h4 : x4 = A4 m c) : val_main_v46 (F := Ideal) x0 x1 x2 x3 x4 = out m c := by
  subst h0 h1 h2 h3 h4
  funext i
  obtain ⟨j, n, rfl⟩ : ∃ (j : Fin 8192) (n : Fin 64), i = ix2 j n := ⟨i 0, i 1, eq_ix2 i⟩
  exact (v46_apply ..).trans (arr7_apply m c j n).symm

theorem reference_frame : Cert.quiescent_Reference8Ideal := fun m g _ =>
  (θ_run _ _ _).mono (fun r h => ⟨fun c => (h c).2, sem_eq_zero_of_no_sems (by decide) _⟩)
    (Cert.Reference8Ideal.Value.run (F := Ideal) m g)

theorem equal : Cert.algebraic_Kernel8Ideal_Reference8Ideal := by
  intro m g m' g' _ hargs
  refine ⟨fun c => out m c, Cert.Kernel8Ideal.Value.run_blocks (F := Ideal) m g, ?_⟩
  refine (θ_run _ _ _).mono (fun r h c =>
    ⟨((h c).1.trans (val_main_v46_eq (F := Ideal) ..)).trans ?_, (h c).2⟩)
    (Cert.Reference8Ideal.Value.run (F := Ideal) m' g')
  obtain ⟨h0, h1, h2, h3, h4⟩ := hargs c
  exact value m c h0 h1 h2 h3 h4

end Cert.Filter
end
-- ==== Proof.lean ====
/-
  The certificate: the frames, the preservation claims and the value claims, assembled from the modules beside it.
-/
module

public import proofs.«01_k».proof.Defs
public import proofs.«01_k».proof.Proof.MlstmBits.Frame
public import proofs.«01_k».proof.Proof.Mlstm.Frame
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Ffn.Frame
public import proofs.«01_k».proof.Proof.Ffn.Equation
public import proofs.«01_k».proof.Proof.InProj.Frame
public import proofs.«01_k».proof.Proof.InProj.Equation
public import proofs.«01_k».proof.Proof.OutProj.Frame
public import proofs.«01_k».proof.Proof.OutProj.Equation
public import proofs.«01_k».proof.Proof.Router.Frame
public import proofs.«01_k».proof.Proof.Router.Equation
public import proofs.«01_k».proof.Proof.Gates.Frame
public import proofs.«01_k».proof.Proof.Gates.Equation
public import proofs.«01_k».proof.Proof.Modulation.Frame
public import proofs.«01_k».proof.Proof.Modulation.Equation
public import proofs.«01_k».proof.Proof.Filter.Frame
public import proofs.«01_k».proof.Proof.Filter.Equation

@[expose] public section
noncomputable section

namespace Cert.Proof
open Idealize.ShloMosaic Idealize.SL.Sem

/-- The recurrence's reference runs, keeps its arguments and ends with every counter at zero. -/
theorem reference_frame : Cert.quiescent_ReferenceIdeal := fun m g _ =>
  (θ_run _ _ _).mono (fun r h => ⟨fun c => (h c).2, sem_eq_zero_of_no_sems (by decide) _⟩)
    (Cert.ReferenceIdeal.Value.run (F := Ideal) m g)

theorem claim : Cert.Claim :=
  ⟨Cert.Kernel.Gen.facts, Cert.KernelIdeal.Gen.facts, Cert.ReferenceIdeal.Gen.facts, Cert.Ffn.facts,
    Cert.Kernel2Ideal.Gen.facts, Cert.Reference2Ideal.Gen.facts,
    Cert.InProj.facts, Cert.Kernel3Ideal.Gen.facts, Cert.Reference3Ideal.Gen.facts,
    Cert.OutProj.facts, Cert.Kernel4Ideal.Gen.facts, Cert.Reference4Ideal.Gen.facts,
    Cert.Router.facts, Cert.Router.idealFacts, Cert.Reference5Ideal.Gen.facts,
    Cert.Gates.facts, Cert.Gates.idealFacts, Cert.Reference6Ideal.Gen.facts,
    Cert.Modulation.facts, Cert.Kernel7Ideal.Gen.facts, Cert.Reference7Ideal.Gen.facts,
    Cert.Filter.facts, Cert.Kernel8Ideal.Gen.facts, Cert.Reference8Ideal.Gen.facts,
    Cert.Router.preFacts, Cert.Gates.preFacts, Cert.Modulation.preFacts,
    fun m ρ _ => Cert.Kernel.Mlstm.frame m ρ,
    fun m ρ _ => Cert.KernelIdeal.Mlstm.frame m ρ,
    reference_frame,
    Cert.Ffn.frame,
    fun m ρ _ => Cert.Kernel2Ideal.Gen.frame m ρ,
    Cert.Ffn.reference_frame,
    Cert.InProj.frame,
    fun m ρ _ => Cert.Kernel3Ideal.Gen.frame m ρ,
    Cert.InProj.reference_frame,
    Cert.OutProj.frame,
    fun m ρ _ => Cert.Kernel4Ideal.Gen.frame m ρ,
    Cert.OutProj.reference_frame,
    Cert.Router.frame,
    Cert.Router.idealFrame,
    fun m ρ _ => Cert.Router.idealFrame m ρ trivial,
    Cert.Router.reference_frame,
    fun m ρ _ => Cert.Router.reference_frame m ρ trivial,
    Cert.Gates.frame,
    Cert.Gates.idealFrame,
    fun m ρ _ => Cert.Gates.idealFrame m ρ trivial,
    Cert.Gates.reference_frame,
    fun m ρ _ => Cert.Gates.reference_frame m ρ trivial,
    Cert.Modulation.frame,
    fun m ρ _ => Cert.Kernel7Ideal.Gen.frame m ρ,
    fun m ρ _ => Cert.Kernel7Ideal.Gen.frame m ρ,
    Cert.Modulation.reference_frame,
    fun m ρ _ => Cert.Modulation.reference_frame m ρ trivial,
    Cert.Filter.frame,
    fun m ρ _ => Cert.Kernel8Ideal.Gen.frame m ρ,
    Cert.Filter.reference_frame,
    IdealRules.named_const.statement Cert.KernelIdeal.κ "mask" .f32 0xF149F2CA#32 ⊥ rfl,
    trivial,
    Cert.Ffn.equal,
    trivial,
    Cert.InProj.equal,
    trivial,
    Cert.OutProj.equal,
    trivial,
    Cert.Router.equal,
    trivial,
    Cert.Gates.equal,
    trivial,
    Cert.Modulation.equal,
    trivial,
    Cert.Filter.equal⟩

end Cert.Proof
end
